-- ==== Defs.lean ====
def Pre_Kernel [hPre_is_swap_Kernel : Cert.Pre_is_swap_Kernel.Facts] (m : (ℓ : Loc Cert.Kernel.nD Cert.Kernel.τ Cert.Kernel.sig) → Buf (Elt Bits) ℓ) : Prop :=
  ∀ c : Dev Cert.Kernel.nD,
    (Cert.Pre_is_swap_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_identity_Kernel [hPre_is_identity_Kernel : Cert.Pre_is_identity_Kernel.Facts] (m : (ℓ : Loc Cert.Kernel.nD Cert.Kernel.τ Cert.Kernel.sig) → Buf (Elt Bits) ℓ) : Prop :=
  ∀ c : Dev Cert.Kernel.nD,
    (Cert.Pre_is_identity_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_is_swap_Kernel : Cert.Pre_is_swap_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_swap_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_identity_Kernel [hPre_is_identity_Kernel : Cert.Pre_is_identity_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_identity_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_is_swap_ReferenceIdeal [hPre_is_swap_ReferenceIdeal : Cert.Pre_is_swap_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_swap_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_identity_ReferenceIdeal [hPre_is_identity_ReferenceIdeal : Cert.Pre_is_identity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_identity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_is_swap_Kernel : Cert.Pre_is_swap_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_identity_Kernel [hKernel : Cert.Kernel.Facts] [hPre_is_identity_Kernel : Cert.Pre_is_identity_Kernel.Facts] : Prop :=
  ∀ (m : (ℓ : Loc Cert.Kernel.nD Cert.Kernel.τ Cert.Kernel.sig) → Buf (Elt Bits) ℓ) (g : Dev Cert.Kernel.nD → PrngReg), Pre_Kernel_is_identity_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_is_swap_Kernel : Cert.Pre_is_swap_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_identity_Kernel [hKernelIdeal : Cert.KernelIdeal.Facts] [hPre_is_identity_Kernel : Cert.Pre_is_identity_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_identity_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_swap_ReferenceIdeal [hReferenceIdeal : Cert.ReferenceIdeal.Facts] [hPre_is_swap_ReferenceIdeal : Cert.Pre_is_swap_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_swap_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_identity_ReferenceIdeal [hReferenceIdeal : Cert.ReferenceIdeal.Facts] [hPre_is_identity_ReferenceIdeal : Cert.Pre_is_identity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_identity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_is_swap_Kernel : Cert.Pre_is_swap_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![2, 4096, 2048]⟩ (Layout.meshBlock [2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_identity_Kernel [hKernelIdeal : Cert.KernelIdeal.Facts] [hReferenceIdeal : Cert.ReferenceIdeal.Facts] [hPre_is_identity_Kernel : Cert.Pre_is_identity_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_identity_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![2, 4096, 2048]⟩ (Layout.meshBlock [2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_is_swap_Kernel : Cert.Pre_is_swap_Kernel.Facts) (hPre_is_identity_Kernel : Cert.Pre_is_identity_Kernel.Facts) (hPre_is_swap_ReferenceIdeal : Cert.Pre_is_swap_ReferenceIdeal.Facts) (hPre_is_identity_ReferenceIdeal : Cert.Pre_is_identity_ReferenceIdeal.Facts),
    quiescent_Kernel (hKernel := hKernel) (hPre_is_swap_Kernel := hPre_is_swap_Kernel)
    ∧ quiescent_Kernel_pre_is_identity_Kernel (hKernel := hKernel) (hPre_is_identity_Kernel := hPre_is_identity_Kernel)
    ∧ quiescent_KernelIdeal (hKernelIdeal := hKernelIdeal) (hPre_is_swap_Kernel := hPre_is_swap_Kernel)
    ∧ quiescent_KernelIdeal_pre_is_identity_Kernel (hKernelIdeal := hKernelIdeal) (hPre_is_identity_Kernel := hPre_is_identity_Kernel)
    ∧ quiescent_ReferenceIdeal (hReferenceIdeal := hReferenceIdeal)
    ∧ quiescent_ReferenceIdeal_pre_is_swap_ReferenceIdeal (hReferenceIdeal := hReferenceIdeal) (hPre_is_swap_ReferenceIdeal := hPre_is_swap_ReferenceIdeal)
    ∧ quiescent_ReferenceIdeal_pre_is_identity_ReferenceIdeal (hReferenceIdeal := hReferenceIdeal) (hPre_is_identity_ReferenceIdeal := hPre_is_identity_ReferenceIdeal)
    ∧ preserves_Kernel_KernelIdeal
    ∧ algebraic_KernelIdeal_ReferenceIdeal (hKernelIdeal := hKernelIdeal) (hReferenceIdeal := hReferenceIdeal) (hPre_is_swap_Kernel := hPre_is_swap_Kernel)
    ∧ algebraic_KernelIdeal_ReferenceIdeal_pre_is_identity_Kernel (hKernelIdeal := hKernelIdeal) (hReferenceIdeal := hReferenceIdeal) (hPre_is_identity_Kernel := hPre_is_identity_Kernel)
-- ==== Pre_is_identity_Kernel.lean ====
abbrev S1x4096x2048 : Shape := ⟨3, ![1, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_is_identity_ReferenceIdeal.lean ====
abbrev S2x4096x2048 : Shape := ⟨3, ![2, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_is_swap_Kernel.lean ====
abbrev S1x4096x2048 : Shape := ⟨3, ![1, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_is_swap_ReferenceIdeal.lean ====
abbrev S2x4096x2048 : Shape := ⟨3, ![2, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x4096x2048 : Shape := ⟨3, ![1, 4096, 2048]⟩
abbrev S2 : Shape := ⟨1, ![2]⟩
abbrev S8 : Shape := ⟨1, ![8]⟩
abbrev S_ : Shape := ⟨0, ![]⟩
abbrev S1 : Shape := ⟨1, ![1]⟩
abbrev S1x256x2048 : Shape := ⟨3, ![1, 256, 2048]⟩

abbrev nBuf : Space → Nat
  | .hbm => 3
  | .vmem => 0
  | .smem => 1
  | _ => 0

abbrev bufTy : (tb : Table) → Fin (tcTables nBuf tb) → BufTy
  | .hbm, ⟨0, _⟩ => ⟨S1x4096x2048, .f32⟩
  | .hbm, ⟨1, _⟩ => ⟨S2, .i32⟩
  | .hbm, ⟨2, _⟩ => ⟨S1x4096x2048, .f32⟩
  | .local _ .smem, ⟨0, _⟩ => ⟨S2, .i32⟩
  | _, _ => ⟨S1x4096x2048, .f32⟩

abbrev bufScoped : (cs : CoreSpace) → Fin (nBuf (.core cs)) → Bool
  | .smem, ⟨0, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.smem, 0, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : Index := Scalar.indexCast v2
  ![v6.toNat]
def k0_dev1 (d0 : Dev nD) (v7 : BitVec 32) : Nat :=
  let c0_i32_7 : BitVec 32 := 0#32
  let c2_i32_6 : BitVec 32 := 2#32
  let v18 : BitVec 32 := Scalar.muli v7 c2_i32_6
  let v19 : BitVec 32 := Scalar.addi c0_i32_7 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_8 : BitVec 32 := 1#32
  let v20 : BitVec 32 := Scalar.muli v5 c1_i32_8
  let v21 : BitVec 32 := Scalar.addi v19 v20
  v21.toNat
def k0_cond1 (d0 : Dev nD) (v7 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v11 : BitVec 1 := Scalar.cmpi .ne v7 v2
  let v12 : BitVec 32 := Scalar.extui v11
  let c0_i32 : BitVec 32 := 0#32
  let v13 : BitVec 1 := Scalar.cmpi .ne v12 c0_i32
  v13

def k0_dev2 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v22 : BitVec 32 := Scalar.muli v2 c2_i32_10
  let v23 : BitVec 32 := Scalar.addi c0_i32_11 v22
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_2 v5
  let c1_i32_12 : BitVec 32 := 1#32
  let v24 : BitVec 32 := Scalar.muli v8 c1_i32_12
  let v25 : BitVec 32 := Scalar.addi v23 v24
  v25.toNat
def k0_off2 (d0 : Dev nD) (c0_i32_14 : BitVec 32) : Fin 3 → Nat :=
  let c0_i32_20 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v9 : BitVec 32 := Scalar.muli v5 c2048_i32
  let v26 : BitVec 32 := Scalar.addi v9 c0_i32_14
  let c0_i32_21 : BitVec 32 := 0#32
  ![0, v26.toNat, 0]
def k0_dev3 (d0 : Dev nD) (v7 : BitVec 32) : Nat :=
  let c0_i32_18 : BitVec 32 := 0#32
  let c2_i32_17 : BitVec 32 := 2#32
  let v27 : BitVec 32 := Scalar.muli v7 c2_i32_17
  let v28 : BitVec 32 := Scalar.addi c0_i32_18 v27
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_19 : BitVec 32 := 1#32
  let v29 : BitVec 32 := Scalar.muli v5 c1_i32_19
  let v30 : BitVec 32 := Scalar.addi v28 v29
  v30.toNat
def k0_dev4 (d0 : Dev nD) (v7 : BitVec 32) : Nat :=
  let c0_i32_27 : BitVec 32 := 0#32
  let c2_i32_26 : BitVec 32 := 2#32
  let v38 : BitVec 32 := Scalar.muli v7 c2_i32_26
  let v39 : BitVec 32 := Scalar.addi c0_i32_27 v38
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_28 : BitVec 32 := 1#32
  let v40 : BitVec 32 := Scalar.muli v5 c1_i32_28
  let v41 : BitVec 32 := Scalar.addi v39 v40
  v41.toNat
def k0_dev5 (d0 : Dev nD) (v7 : BitVec 32) : Nat :=
  let c0_i32_36 : BitVec 32 := 0#32
  let c2_i32_35 : BitVec 32 := 2#32
  let v49 : BitVec 32 := Scalar.muli v7 c2_i32_35
  let v50 : BitVec 32 := Scalar.addi c0_i32_36 v49
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_37 : BitVec 32 := 1#32
  let v51 : BitVec 32 := Scalar.muli v5 c1_i32_37
  let v52 : BitVec 32 := Scalar.addi v50 v51
  v52.toNat
def k0_dev6 (d0 : Dev nD) (v7 : BitVec 32) : Nat :=
  let c0_i32_44 : BitVec 32 := 0#32
  let c2_i32_43 : BitVec 32 := 2#32
  let v60 : BitVec 32 := Scalar.muli v7 c2_i32_43
  let v61 : BitVec 32 := Scalar.addi c0_i32_44 v60
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_45 : BitVec 32 := 1#32
  let v62 : BitVec 32 := Scalar.muli v5 c1_i32_45
  let v63 : BitVec 32 := Scalar.addi v61 v62
  v63.toNat
def k0_dev7 (d0 : Dev nD) (v7 : BitVec 32) : Nat :=
  let c0_i32_52 : BitVec 32 := 0#32
  let c2_i32_51 : BitVec 32 := 2#32
  let v71 : BitVec 32 := Scalar.muli v7 c2_i32_51
  let v72 : BitVec 32 := Scalar.addi c0_i32_52 v71
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_53 : BitVec 32 := 1#32
  let v73 : BitVec 32 := Scalar.muli v5 c1_i32_53
  let v74 : BitVec 32 := Scalar.addi v72 v73
  v74.toNat
def k0_dev8 (d0 : Dev nD) (v7 : BitVec 32) : Nat :=
  let c0_i32_60 : BitVec 32 := 0#32
  let c2_i32_59 : BitVec 32 := 2#32
  let v82 : BitVec 32 := Scalar.muli v7 c2_i32_59
  let v83 : BitVec 32 := Scalar.addi c0_i32_60 v82
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_61 : BitVec 32 := 1#32
  let v84 : BitVec 32 := Scalar.muli v5 c1_i32_61
  let v85 : BitVec 32 := Scalar.addi v83 v84
  v85.toNat
def k0_dev9 (d0 : Dev nD) (v7 : BitVec 32) : Nat :=
  let c0_i32_68 : BitVec 32 := 0#32
  let c2_i32_67 : BitVec 32 := 2#32
  let v93 : BitVec 32 := Scalar.muli v7 c2_i32_67
  let v94 : BitVec 32 := Scalar.addi c0_i32_68 v93
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_69 : BitVec 32 := 1#32
  let v95 : BitVec 32 := Scalar.muli v5 c1_i32_69
  let v96 : BitVec 32 := Scalar.addi v94 v95
  v96.toNat
def k0_dev10 (d0 : Dev nD) (v7 : BitVec 32) : Nat :=
  let c0_i32_76 : BitVec 32 := 0#32
  let c2_i32_75 : BitVec 32 := 2#32
  let v104 : BitVec 32 := Scalar.muli v7 c2_i32_75
  let v105 : BitVec 32 := Scalar.addi c0_i32_76 v104
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_77 : BitVec 32 := 1#32
  let v106 : BitVec 32 := Scalar.muli v5 c1_i32_77
  let v107 : BitVec 32 := Scalar.addi v105 v106
  v107.toNat

def k0_chk1 (d0 : Dev nD) (v7 : BitVec 32) : Prop :=
  (∀ (k0_h1 : k0_cond1 d0 v7 = 1#1), (k0_dev1 d0 v7) < nD) ∧
  (∀ (k0_h1 : k0_cond1 d0 v7 = 1#1), (k0_dev3 d0 v7) < nD) ∧
  (∀ (k0_h1 : k0_cond1 d0 v7 = 1#1), (k0_dev4 d0 v7) < nD) ∧
  (∀ (k0_h1 : k0_cond1 d0 v7 = 1#1), (k0_dev5 d0 v7) < nD) ∧
  (∀ (k0_h1 : k0_cond1 d0 v7 = 1#1), (k0_dev6 d0 v7) < nD) ∧
  (∀ (k0_h1 : k0_cond1 d0 v7 = 1#1), (k0_dev7 d0 v7) < nD) ∧
  (∀ (k0_h1 : k0_cond1 d0 v7 = 1#1), (k0_dev8 d0 v7) < nD) ∧
  (∀ (k0_h1 : k0_cond1 d0 v7 = 1#1), (k0_dev9 d0 v7) < nD) ∧
  (∀ (k0_h1 : k0_cond1 d0 v7 = 1#1), (k0_dev10 d0 v7) < nD)
theorem k0_dev1_lt : ∀ (d0 : Dev nD) (v7 : BitVec 32) (k0_hw1 : k0_chk1 d0 v7), ∀ (k0_h1 : k0_cond1 d0 v7 = 1#1), (k0_dev1 d0 v7) < nD := fun d0 v7 k0_hw1 k0_h1 => k0_hw1.1 k0_h1
theorem k0_dev3_lt : ∀ (d0 : Dev nD) (v7 : BitVec 32) (k0_hw1 : k0_chk1 d0 v7), ∀ (k0_h1 : k0_cond1 d0 v7 = 1#1), (k0_dev3 d0 v7) < nD := fun d0 v7 k0_hw1 k0_h1 => k0_hw1.2.1 k0_h1
theorem k0_dev4_lt : ∀ (d0 : Dev nD) (v7 : BitVec 32) (k0_hw1 : k0_chk1 d0 v7), ∀ (k0_h1 : k0_cond1 d0 v7 = 1#1), (k0_dev4 d0 v7) < nD := fun d0 v7 k0_hw1 k0_h1 => k0_hw1.2.2.1 k0_h1
theorem k0_dev5_lt : ∀ (d0 : Dev nD) (v7 : BitVec 32) (k0_hw1 : k0_chk1 d0 v7), ∀ (k0_h1 : k0_cond1 d0 v7 = 1#1), (k0_dev5 d0 v7) < nD := fun d0 v7 k0_hw1 k0_h1 => k0_hw1.2.2.2.1 k0_h1
theorem k0_dev6_lt : ∀ (d0 : Dev nD) (v7 : BitVec 32) (k0_hw1 : k0_chk1 d0 v7), ∀ (k0_h1 : k0_cond1 d0 v7 = 1#1), (k0_dev6 d0 v7) < nD := fun d0 v7 k0_hw1 k0_h1 => k0_hw1.2.2.2.2.1 k0_h1
theorem k0_dev7_lt : ∀ (d0 : Dev nD) (v7 : BitVec 32) (k0_hw1 : k0_chk1 d0 v7), ∀ (k0_h1 : k0_cond1 d0 v7 = 1#1), (k0_dev7 d0 v7) < nD := fun d0 v7 k0_hw1 k0_h1 => k0_hw1.2.2.2.2.2.1 k0_h1
theorem k0_dev8_lt : ∀ (d0 : Dev nD) (v7 : BitVec 32) (k0_hw1 : k0_chk1 d0 v7), ∀ (k0_h1 : k0_cond1 d0 v7 = 1#1), (k0_dev8 d0 v7) < nD := fun d0 v7 k0_hw1 k0_h1 => k0_hw1.2.2.2.2.2.2.1 k0_h1
theorem k0_dev9_lt : ∀ (d0 : Dev nD) (v7 : BitVec 32) (k0_hw1 : k0_chk1 d0 v7), ∀ (k0_h1 : k0_cond1 d0 v7 = 1#1), (k0_dev9 d0 v7) < nD := fun d0 v7 k0_hw1 k0_h1 => k0_hw1.2.2.2.2.2.2.2.1 k0_h1
theorem k0_dev10_lt : ∀ (d0 : Dev nD) (v7 : BitVec 32) (k0_hw1 : k0_chk1 d0 v7), ∀ (k0_h1 : k0_cond1 d0 v7 = 1#1), (k0_dev10 d0 v7) < nD := fun d0 v7 k0_hw1 k0_h1 => k0_hw1.2.2.2.2.2.2.2.2 k0_h1

def k0_dev11 (d0 : Dev nD) : Nat :=
  let c0_i32_96 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_95 : BitVec 32 := 2#32
  let v124 : BitVec 32 := Scalar.muli v2 c2_i32_95
  let v125 : BitVec 32 := Scalar.addi c0_i32_96 v124
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_2 v5
  let c1_i32_97 : BitVec 32 := 1#32
  let v126 : BitVec 32 := Scalar.muli v8 c1_i32_97
  let v127 : BitVec 32 := Scalar.addi v125 v126
  v127.toNat
def k0_dev12 (d0 : Dev nD) : Nat :=
  let c0_i32_123 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_122 : BitVec 32 := 2#32
  let v148 : BitVec 32 := Scalar.muli v2 c2_i32_122
  let v149 : BitVec 32 := Scalar.addi c0_i32_123 v148
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_2 v5
  let c1_i32_124 : BitVec 32 := 1#32
  let v150 : BitVec 32 := Scalar.muli v8 c1_i32_124
  let v151 : BitVec 32 := Scalar.addi v149 v150
  v151.toNat
def k0_dev13 (d0 : Dev nD) : Nat :=
  let c0_i32_150 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_149 : BitVec 32 := 2#32
  let v172 : BitVec 32 := Scalar.muli v2 c2_i32_149
  let v173 : BitVec 32 := Scalar.addi c0_i32_150 v172
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_2 v5
  let c1_i32_151 : BitVec 32 := 1#32
  let v174 : BitVec 32 := Scalar.muli v8 c1_i32_151
  let v175 : BitVec 32 := Scalar.addi v173 v174
  v175.toNat
def k0_dev14 (d0 : Dev nD) : Nat :=
  let c0_i32_177 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_176 : BitVec 32 := 2#32
  let v196 : BitVec 32 := Scalar.muli v2 c2_i32_176
  let v197 : BitVec 32 := Scalar.addi c0_i32_177 v196
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_2 v5
  let c1_i32_178 : BitVec 32 := 1#32
  let v198 : BitVec 32 := Scalar.muli v8 c1_i32_178
  let v199 : BitVec 32 := Scalar.addi v197 v198
  v199.toNat
def k0_dev15 (d0 : Dev nD) : Nat :=
  let c0_i32_204 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_203 : BitVec 32 := 2#32
  let v220 : BitVec 32 := Scalar.muli v2 c2_i32_203
  let v221 : BitVec 32 := Scalar.addi c0_i32_204 v220
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_2 v5
  let c1_i32_205 : BitVec 32 := 1#32
  let v222 : BitVec 32 := Scalar.muli v8 c1_i32_205
  let v223 : BitVec 32 := Scalar.addi v221 v222
  v223.toNat
def k0_dev16 (d0 : Dev nD) : Nat :=
  let c0_i32_231 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_230 : BitVec 32 := 2#32
  let v244 : BitVec 32 := Scalar.muli v2 c2_i32_230
  let v245 : BitVec 32 := Scalar.addi c0_i32_231 v244
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_2 v5
  let c1_i32_232 : BitVec 32 := 1#32
  let v246 : BitVec 32 := Scalar.muli v8 c1_i32_232
  let v247 : BitVec 32 := Scalar.addi v245 v246
  v247.toNat
def k0_dev17 (d0 : Dev nD) : Nat :=
  let c0_i32_258 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_257 : BitVec 32 := 2#32
  let v268 : BitVec 32 := Scalar.muli v2 c2_i32_257
  let v269 : BitVec 32 := Scalar.addi c0_i32_258 v268
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_2 v5
  let c1_i32_259 : BitVec 32 := 1#32
  let v270 : BitVec 32 := Scalar.muli v8 c1_i32_259
  let v271 : BitVec 32 := Scalar.addi v269 v270
  v271.toNat
def k0_dev18 (d0 : Dev nD) : Nat :=
  let c0_i32_285 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_284 : BitVec 32 := 2#32
  let v292 : BitVec 32 := Scalar.muli v2 c2_i32_284
  let v293 : BitVec 32 := Scalar.addi c0_i32_285 v292
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_2 v5
  let c1_i32_286 : BitVec 32 := 1#32
  let v294 : BitVec 32 := Scalar.muli v8 c1_i32_286
  let v295 : BitVec 32 := Scalar.addi v293 v294
  v295.toNat
def k0_off3 (d0 : Dev nD) (c0_i32_298 : BitVec 32) : Fin 3 → Nat :=
  let c0_i32_304 : BitVec 32 := 0#32
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_2 v5
  let c2048_i32_3 : BitVec 32 := 2048#32
  let v10 : BitVec 32 := Scalar.muli v8 c2048_i32_3
  let v306 : BitVec 32 := Scalar.addi v10 c0_i32_298
  let c0_i32_305 : BitVec 32 := 0#32
  ![0, v306.toNat, 0]
abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x2048 : Shape := ⟨3, ![2, 4096, 2048]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.KernelIdealPlaces.lean ====
/- Who talks to whom, and where. The four devices stand on a 2 by 2 mesh: device `c` is at row `c / 2`, column
   `c % 2`. Its ROW PARTNER (`rowP`) sits in the other row and the same column, its COLUMN PARTNER (`colP`) in the same
   row and the other column. A block of 4096 rows is cut into two halves of 2048 rows, each half into eight pieces of
   256 rows; `seg h k` is piece `k` of half `h`. This module names the partners, the pieces, the two rectangles of the
   printed program that cut a piece out of a buffer, and the contents the result buffer ends with. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The partners -/

/-- The device in the other row, same column. -/
def rowP (c : Dev nD) : Dev nD := ⟨(c.val + 2) % 4, Nat.mod_lt _ (by decide)⟩
/-- The device in the same row, other column. -/
def colP (c : Dev nD) : Dev nD := ⟨2 * (c.val / 2) + 1 - c.val % 2, by have := c.isLt; change c.val < 4 at this; change _ < 4; omega⟩

theorem rowP_rowP (c : Dev nD) : rowP (rowP c) = c := by revert c; decide
theorem colP_colP (c : Dev nD) : colP (colP c) = c := by revert c; decide
theorem rowP_colP (c : Dev nD) : rowP (colP c) = colP (rowP c) := by revert c; decide
theorem rowP_ne_colP (c : Dev nD) : rowP c ≠ colP c := by revert c; decide

/-- Trading places with the row partner, as a permutation of the devices; -/
def rowE : Dev nD ≃ Dev nD := ⟨rowP, rowP, rowP_rowP, rowP_rowP⟩
/-- and with the column partner. -/
def colE : Dev nD ≃ Dev nD := ⟨colP, colP, colP_colP, colP_colP⟩

/-! ## The halves and the pieces -/

/-- The half of a block a device itself carries between the rows: its column. -/
def hf (c : Dev nD) : Fin 2 := ⟨c.val % 2, Nat.mod_lt _ (by decide)⟩

theorem hf_rowP (c : Dev nD) : hf (rowP c) = hf c := by revert c; decide
theorem hf_colP_ne (c : Dev nD) : hf (colP c) ≠ hf c := by revert c; decide

theorem seg_inb (h : Fin 2) (k : Fin 8) :
    ∀ a, (![0, 2048 * h.val + 256 * k.val, 0] : Fin 3 → ℕ) a + S1x256x2048.size a ≤ S1x4096x2048.size a := by
  revert h k; decide

/-- Piece `k` of half `h`: rows `2048·h + 256·k` up to the next piece. -/
def seg (h : Fin 2) (k : Fin 8) : Finset S1x4096x2048.Idx :=
  (Rect.unit (s := S1x4096x2048) ![0, 2048 * h.val + 256 * k.val, 0] S1x256x2048.size (seg_inb h k)).set

theorem mem_seg {h : Fin 2} {k : Fin 8} {i : S1x4096x2048.Idx} :
    i ∈ seg h k ↔ 2048 * h.val + 256 * k.val ≤ (i 1).val ∧ (i 1).val < 2048 * h.val + 256 * k.val + 256 := by
  have h0 : (i 0).val < 1 := (i 0).isLt
  have h2 : (i 2).val < 2048 := (i 2).isLt
  have e : ∀ P : Fin 3 → Prop, (∀ a, P a) ↔ P 0 ∧ P 1 ∧ P 2 := fun P =>
    ⟨fun H => ⟨H 0, H 1, H 2⟩, fun ⟨p, q, r⟩ a => by fin_cases a <;> assumption⟩
  unfold seg
  rw [Rect.mem_set_unit, e]
  constructor
  · intro H; exact H.2.1
  · intro H
    exact ⟨⟨Nat.zero_le _, by change (i 0).val < 0 + 1; omega⟩, H, ⟨Nat.zero_le _, by change (i 2).val < 0 + 2048; omega⟩⟩

/-- Which half and piece a row is in. -/
theorem seg_half {h : Fin 2} {k : Fin 8} {i : S1x4096x2048.Idx} (hi : i ∈ seg h k) : (i 1).val / 2048 = h.val := by
  rw [mem_seg] at hi; have := k.isLt; omega

theorem seg_disjoint : ∀ b b' : Fin 2 × Fin 8, b ≠ b' → Disjoint (seg b.1 b.2) (seg b'.1 b'.2) := by
  rintro ⟨h, k⟩ ⟨h', k'⟩ hne
  rw [Finset.disjoint_left]
  intro i hi hi'
  rw [mem_seg] at hi hi'
  simp only at hi hi'
  refine hne (Prod.ext (Fin.ext ?_) (Fin.ext ?_)) <;> · simp only; omega

theorem seg_cover : Finset.univ.biUnion (fun b : Fin 2 × Fin 8 => seg b.1 b.2) = Finset.univ := by
  ext i
  simp only [Finset.mem_biUnion, Finset.mem_univ, true_and, iff_true]
  have h1 : (i 1).val < 4096 := (i 1).isLt
  refine ⟨(⟨(i 1).val / 2048, by omega⟩, ⟨(i 1).val % 2048 / 256, by omega⟩), ?_⟩
  rw [mem_seg]; simp only; omega

/-! ## The program's views of a piece -/

/-- Piece `k` of device `d`'s half, cut out of the input; -/
abbrev xCh (d : Dev nD) (k : Fin 8) : Memref sig .tc .hbm S1x256x2048 .f32 :=
  (Memref.whole main_arg0 : Memref sig .tc .hbm S1x4096x2048 .f32).slice
    (Rect.unit (s := S1x4096x2048) (k0_off2 d (BitVec.ofNat 32 (256 * k.val))) S1x256x2048.size (k0_off2_inb d k)) (fun _ => rfl)
/-- cut out of the result; -/
abbrev oCh (d : Dev nD) (k : Fin 8) : Memref sig .tc .hbm S1x256x2048 .f32 :=
  (Memref.whole main_v1 : Memref sig .tc .hbm S1x4096x2048 .f32).slice
    (Rect.unit (s := S1x4096x2048) (k0_off2 d (BitVec.ofNat 32 (256 * k.val))) S1x256x2048.size (k0_off2_inb d k)) (fun _ => rfl)

theorem rect_set_congr {off off' : Fin 3 → ℕ} (e : off = off') {inb inb'} :
    (Rect.unit (s := S1x4096x2048) off S1x256x2048.size inb).set = (Rect.unit (s := S1x4096x2048) off' S1x256x2048.size inb').set := by
  subst e; rfl

theorem xCh_set (d : Dev nD) (k : Fin 8) : (xCh d k).view.set = seg (hf d) k :=
  (View.set_slice_whole main_arg0 _).trans (rect_set_congr (k0_off2_eq d k))
theorem oCh_set (d : Dev nD) (k : Fin 8) : (oCh d k).view.set = seg (hf d) k :=
  (View.set_slice_whole main_v1 _).trans (rect_set_congr (k0_off2_eq d k))

/-- What moving one piece credits a semaphore with. -/
abbrev N : ℕ := (oCh 0 0).view.dmaCredit
theorem N_pos : 0 < N := View.dmaCredit_pos _ (by decide)
theorem credit_o (d : Dev nD) (k : Fin 8) : (oCh d k).view.dmaCredit = N := rfl
theorem credit_x (d : Dev nD) (k : Fin 8) : (xCh d k).view.dmaCredit = N := rfl

/-! ## Contents -/

/-- The contents of a block of the input or of the result: both have one type. -/
abbrev Blk (F : FTy → Type) : Type := S1x4096x2048.Idx → Elt F .f32

/-- A piece sent from the input lands as it was; -/
theorem land_x (d : Dev nD) (k : Fin 8) (fd : Blk F) (fs : Blk F) {i : S1x4096x2048.Idx} (hi : i ∈ seg (hf d) k) :
    (oCh d k).view.write (Elt F) fd ((xCh d k).view.read (Elt F) fs) Finset.univ i = fs i := by
  rw [← oCh_set d k] at hi
  obtain ⟨x, -, rfl⟩ := Finset.mem_map.mp hi
  rw [View.write_emb_of_mem _ _ (Finset.mem_univ x)]
  rfl

/-- and so does one sent on from the result. -/
theorem land_o (d : Dev nD) (k : Fin 8) (fd : Blk F) (fs : Blk F) {i : S1x4096x2048.Idx} (hi : i ∈ seg (hf d) k) :
    (oCh d k).view.write (Elt F) fd ((oCh d k).view.read (Elt F) fs) Finset.univ i = fs i := by
  rw [← oCh_set d k] at hi
  obtain ⟨x, -, rfl⟩ := Finset.mem_map.mp hi
  rw [View.write_emb_of_mem _ _ (Finset.mem_univ x)]
  rfl

variable (xs : Dev nD → Blk F)

/-- What device `c`'s result ends with: its own half from its row partner's input, the other half from the input of
    its row partner's column partner. -/
def outF (c : Dev nD) : Blk F := fun i => if (i 1).val / 2048 = (hf c).val then xs (rowP c) i else xs (rowP (colP c)) i

theorem outF_own (c : Dev nD) {k : Fin 8} {i : S1x4096x2048.Idx} (hi : i ∈ seg (hf c) k) : outF xs c i = xs (rowP c) i := by
  unfold outF; rw [if_pos (seg_half hi)]

theorem outF_colP (c : Dev nD) {k : Fin 8} {i : S1x4096x2048.Idx} (hi : i ∈ seg (hf c) k) : outF xs (colP c) i = outF xs c i := by
  have h1 : (i 1).val / 2048 ≠ (hf (colP c)).val := by
    rw [seg_half hi]; exact fun h => hf_colP_ne c (Fin.ext h).symm
  rw [outF_own xs c hi]; unfold outF; rw [if_neg h1, colP_colP]

end Cert.KernelIdeal.Swap

end

end
-- ==== Proof.KernelIdealSched.lean ====
/- The protocol, as a schedule. Every device has thirty-four cells: the runtime's barrier (index 0), four times eight DMA
   semaphores — across the rows: sent, received; along the row: sent, received, one for each of the eight pieces — and
   the one of the local copy (index 33), which a swap does not use. Each cell but the last has one round. A device's
   barrier expects one unit from its row partner and one from its column partner, and with each unit the payer hands
   over the pieces of its own result buffer that the owner of the barrier is going to write. A "sent" cell hands the
   source piece back, a "received" cell hands over the piece with what has landed in it. The levels say who may wait
   while owing what: barrier below row transfers below column transfers. -/
module

public import proofs.«01_k».proof.Proof.KernelIdealPlaces

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (xs : Dev nD → Blk F)

/-! ## The cells -/

/-- The runtime's barrier semaphore. -/
abbrev barS : Sem sig := (SemArray.scalar (sig.barrier 0 rfl) : Sems sig S_).sem

/-- The number of the DMA semaphore of piece `k` in group `q`: 0 sent across the rows, 1 received across the rows,
    2 sent along the row, 3 received along the row. -/
def ix (q : Fin 4) (k : Fin 8) : Fin 34 := ⟨8 * q.val + k.val + 1, by omega⟩

/-- That semaphore. -/
abbrev dS (q : Fin 4) (k : Fin 8) : DmaSem sig := ix q k

abbrev barC (c : Dev nD) : GSem nD τ sig := ((c : Thread nD τ), .reg barS)
abbrev cell (q : Fin 4) (k : Fin 8) (c : Dev nD) : GSem nD τ sig := ((c : Thread nD τ), .dma (dS q k))

/-- A device's cells by index. -/
def csem (i : Fin 34) : SemLoc sig := if i = 0 then .reg barS else .dma (i : DmaSem sig)
abbrev kcell (ci : Dev nD × Fin 34) : GSem nD τ sig := ((ci.1 : Thread nD τ), csem ci.2)

theorem csem_zero : csem 0 = .reg barS := if_pos rfl
theorem csem_ix (q : Fin 4) (k : Fin 8) : csem (ix q k) = .dma (dS q k) :=
  if_neg fun h => by have := congrArg Fin.val h; simp [ix] at this
theorem kcell_zero (c : Dev nD) : kcell (c, 0) = barC c := by unfold kcell; rw [csem_zero]
theorem kcell_ix (c : Dev nD) (q : Fin 4) (k : Fin 8) : kcell (c, ix q k) = cell q k c := by unfold kcell; rw [csem_ix]

theorem ix_inj {q q' : Fin 4} {k k' : Fin 8} (h : ix q k = ix q' k') : q = q' ∧ k = k' := by
  have := congrArg Fin.val h; simp only [ix] at this
  exact ⟨Fin.ext (by omega), Fin.ext (by omega)⟩

theorem dma_ne_bar (j : DmaSem sig) : (SemLoc.dma j : SemLoc sig) ≠ .reg barS := fun h => by cases h

/-! ## The pieces, held -/

/-- Piece `k` of half `h` of device `e`'s result, at the contents `f`; -/
def outP (e : Dev nD) (h : Fin 2) (k : Fin 8) (f : Blk F) : sProp 𝕄 :=
  ((e : Thread nD τ).loc main_v1) ↦[seg h k]{fullShare} f
/-- at some contents; -/
def outAny (e : Dev nD) (h : Fin 2) (k : Fin 8) : sProp 𝕄 := iprop(∃ f : Blk F, outP e h k f)
/-- piece `k` of half `h` of device `c`'s input. -/
def xP (c : Dev nD) (h : Fin 2) (k : Fin 8) : sProp 𝕄 :=
  ((c : Thread nD τ).loc main_arg0) ↦[seg h k]{fullShare} xs c

instance outP_storable (e : Dev nD) (h : Fin 2) (k : Fin 8) (f : Blk F) : BI.Storable (upEmb : UEmb _ 𝕄) (outP (F := F) e h k f) := by
  unfold outP; infer_instance
instance outAny_storable (e : Dev nD) (h : Fin 2) (k : Fin 8) : BI.Storable (upEmb : UEmb _ 𝕄) (outAny (F := F) e h k) := by
  unfold outAny; infer_instance
instance xP_storable (c : Dev nD) (h : Fin 2) (k : Fin 8) : BI.Storable (upEmb : UEmb _ 𝕄) (xP (F := F) xs c h k) := by
  unfold xP; infer_instance

/-! ## The schedule -/

/-- What a unit on `c`'s barrier brings: the pieces of the payer's result that `c` will write, at any contents. The payer
    is the row partner (`false`) or the column partner (`true`). -/
def barPay (c : Dev nD) (d : Bool) : sProp 𝕄 :=
  bigSep Finset.univ fun k : Fin 8 => outAny (F := F) (if d then colP c else rowP c) (hf c) k

instance barPay_storable (c : Dev nD) (d : Bool) : BI.Storable (upEmb : UEmb _ 𝕄) (barPay (F := F) c d) := by
  unfold barPay; infer_instance

/-- What the completion of a transfer brings its waiter. -/
def dmaPay (c : Dev nD) (q : Fin 4) (k : Fin 8) : sProp 𝕄 :=
  if q = 0 then xP xs c (hf c) k
  else if q = 3 then outP c (hf (colP c)) k (outF xs c)
  else outP c (hf c) k (outF xs c)

instance dmaPay_storable (c : Dev nD) (q : Fin 4) (k : Fin 8) : BI.Storable (upEmb : UEmb _ 𝕄) (dmaPay (F := F) xs c q k) := by
  unfold dmaPay; (repeat' split) <;> infer_instance

abbrev IsBar (g : GSem nD τ sig) : Prop := g.1.2 = .tc ∧ g.2 = .reg barS
abbrev IsXfer (g : GSem nD τ sig) : Prop := g.1.2 = .tc ∧ ∃ qk : Fin 4 × Fin 8, g.2 = .dma (dS qk.1 qk.2)

/-- The payload of a cell, read off its number. -/
def payOf (c : Dev nD) (d : Bool) : SemLoc sig → sProp 𝕄
  | .reg _ => barPay c d
  | .dma j => dmaPay xs c ⟨((j : Fin 34).val - 1) / 8 % 4, Nat.mod_lt _ (by decide)⟩ ⟨((j : Fin 34).val - 1) % 8, Nat.mod_lt _ (by decide)⟩

/-- One round: a barrier has two duties of one unit, a transfer's cell one duty of a piece's credit. -/
def sched : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d := payOf xs g.1.1 d g.2
  amount_pos g _ _ _ := by
    by_cases h : g.2 = .reg barS
    · rw [if_pos h]; exact Nat.one_pos
    · rw [if_neg h]; exact N_pos

instance sched_payload_storable (g : GSem nD τ sig) (r : ℕ) (d : Bool) :
    BI.Storable (upEmb : UEmb _ 𝕄) ((sched (F := F) xs).payload g r d) := by
  show BI.Storable upEmb (payOf xs g.1.1 d g.2)
  cases g.2 <;> · unfold payOf; infer_instance

section Tables
variable (c : Dev nD) (q : Fin 4) (k : Fin 8)

theorem duties_bar : (sched (F := F) xs).duties (barC c) 0 = Finset.univ := by dsimp only [sched]; exact if_pos ⟨rfl, rfl, rfl⟩
theorem duties_dma : (sched (F := F) xs).duties (cell q k c) 0 = {false} := by
  dsimp only [sched]
  rw [if_neg (fun h => dma_ne_bar _ h.2.2)]
  exact if_pos ⟨rfl, rfl, (q, k), rfl⟩
theorem duties_later (g : GSem nD τ sig) : ∀ r, 1 ≤ r → (sched (F := F) xs).duties g r = ∅ :=
  fun r hr => by dsimp only [sched]; rw [if_neg fun h => by omega, if_neg fun h => by omega]
/-- The local copy's cell has no duty at all. -/
theorem duties_local : ∀ r, 0 ≤ r → (sched (F := F) xs).duties (kcell (c, 33)) r = ∅ := fun r _ => by
  dsimp only [sched]
  rw [if_neg, if_neg]
  · rintro ⟨-, -, ⟨q, k⟩, h⟩
    have h' : SemLoc.dma ((33 : Fin 34) : DmaSem sig) = .dma (dS q k) := h
    have := congrArg Fin.val (SemLoc.dma.inj h'); change 33 = 8 * q.val + k.val + 1 at this; omega
  · rintro ⟨-, -, h⟩; exact dma_ne_bar (33 : Fin 34) h

theorem amount_bar (d : Bool) : (sched (F := F) xs).amount (barC c) 0 d = 1 := by dsimp only [sched]; exact if_pos rfl
theorem amount_dma (d : Bool) : (sched (F := F) xs).amount (cell q k c) 0 d = N := by dsimp only [sched]; exact if_neg (dma_ne_bar _)

theorem expect_bar : (sched (F := F) xs).expect (barC c) 0 = 2 := by
  unfold Schedule.expect Schedule.amountOf
  rw [duties_bar, Finset.sum_congr rfl fun d _ => amount_bar xs c d, Finset.sum_const, Finset.card_univ, Fintype.card_bool, smul_eq_mul]
theorem expect_dma : (sched (F := F) xs).expect (cell q k c) 0 = N := by
  unfold Schedule.expect Schedule.amountOf; rw [duties_dma, Finset.sum_singleton, amount_dma]

theorem payload_bar (d : Bool) : (sched (F := F) xs).payload (barC c) 0 d = barPay c d := rfl
theorem payload_dma (d : Bool) : (sched (F := F) xs).payload (cell q k c) 0 d = dmaPay xs c q k := by
  show dmaPay xs c ⟨(8 * q.val + k.val + 1 - 1) / 8 % 4, _⟩ ⟨(8 * q.val + k.val + 1 - 1) % 8, _⟩ = _
  congr 1 <;> exact Fin.ext (by simp only; omega)

theorem rest_bar : bigSep ((sched (F := F) xs).duties (barC c) 0 \ ∅) (fun d => (sched (F := F) xs).payload (barC c) 0 d)
    = iprop(barPay c false ∗ barPay c true) := by
  rw [Finset.sdiff_empty, duties_bar, bigSep_univ_eq_bigSepL [false, true] (by decide) (by decide), bigSepL_cons_cons, bigSepL_singleton]
  rfl
theorem rest_dma : bigSep ((sched (F := F) xs).duties (cell q k c) 0 \ ∅) (fun d => (sched (F := F) xs).payload (cell q k c) 0 d)
    = dmaPay xs c q k := by
  rw [Finset.sdiff_empty, duties_dma, bigSep_singleton, payload_dma]

end Tables

/-! ## What is owed, and the levels -/

/-- The row transfers from piece `n` on: device `c` owes its row partner's "received" cells their credit. -/
def owesX (c : Dev nD) (n : ℕ) : CellTallies nD τ sig Unit :=
  ∑ i ∈ (Finset.univ : Finset (Fin 8)).filter (fun i => n ≤ i.val), tallyAt (cell 1 i (rowP c)) () N
/-- The column transfers from piece `n` on. -/
def owesY (c : Dev nD) (n : ℕ) : CellTallies nD τ sig Unit :=
  ∑ i ∈ (Finset.univ : Finset (Fin 8)).filter (fun i => n ≤ i.val), tallyAt (cell 3 i (colP c)) () N

theorem filter_peel (k : Fin 8) : (Finset.univ : Finset (Fin 8)).filter (fun i => k.val ≤ i.val)
    = insert k ((Finset.univ : Finset (Fin 8)).filter (fun i => k.val + 1 ≤ i.val)) := by revert k; decide
theorem filter_peel_notMem (k : Fin 8) : k ∉ (Finset.univ : Finset (Fin 8)).filter (fun i => k.val + 1 ≤ i.val) := by revert k; decide

theorem owesX_peel (c : Dev nD) (k : Fin 8) : owesX c k.val = owesX c (k.val + 1) + tallyAt (cell 1 k (rowP c)) () N := by
  unfold owesX; rw [filter_peel k, Finset.sum_insert (filter_peel_notMem k), add_comm]
theorem owesY_peel (c : Dev nD) (k : Fin 8) : owesY c k.val = owesY c (k.val + 1) + tallyAt (cell 3 k (colP c)) () N := by
  unfold owesY; rw [filter_peel k, Finset.sum_insert (filter_peel_notMem k), add_comm]

theorem tallies_pos {S : Finset (Fin 8)} {f : Fin 8 → GSem nD τ sig} {g : GSem nD τ sig} {u : Unit}
    (h : 0 < (∑ i ∈ S, tallyAt (f i) () N : CellTallies nD τ sig Unit) g u) : ∃ i ∈ S, g = f i := by
  rw [Finset.sum_apply, Finsupp.finset_sum_apply] at h
  by_contra hn
  push Not at hn
  refine Nat.lt_irrefl 0 (h.trans_eq (Finset.sum_eq_zero fun i hi => ?_))
  rw [tallyAt_apply, if_neg fun h' => hn i hi h'.1]

/-- How many column transfers have started before step `n` of the body. -/
def started (n : ℕ) : ℕ := (n - 7) / 3

/-- What a device owes before step `n` of the body (the steps counted from after its barrier wait). -/
def debt (c : Dev nD) (n : ℕ) : CellTallies nD τ sig Unit := owesY c (started n) + owesX c n

theorem debt_pos {c : Dev nD} {n : ℕ} {g : GSem nD τ sig} {u : Unit} (h : 0 < debt c n g u) :
    (n < 8 ∧ ∃ i, g = cell 1 i (rowP c)) ∨ (n < 31 ∧ ∃ i, g = cell 3 i (colP c)) := by
  unfold debt at h
  rw [Pi.add_apply, Finsupp.add_apply] at h
  rcases Nat.eq_zero_or_pos (owesX c n g u) with h0 | h0
  · rw [h0, Nat.add_zero] at h
    obtain ⟨i, hi, e⟩ := tallies_pos h
    have := (Finset.mem_filter.mp hi).2
    exact .inr ⟨by have := i.isLt; unfold started at *; omega, i, e⟩
  · obtain ⟨i, hi, e⟩ := tallies_pos h0
    have := (Finset.mem_filter.mp hi).2
    exact .inl ⟨by omega, i, e⟩

/-- What it owes at launch: all that, then a unit to the column partner's barrier, then one to the row partner's. -/
def O₁ (c : Dev nD) : CellTallies nD τ sig Unit := debt c 0 + tallyAt (barC (colP c)) () 1
def O₀ (c : Dev nD) : CellTallies nD τ sig Unit := O₁ c + tallyAt (barC (rowP c)) () 1

theorem O₀_pos {c : Dev nD} {g : GSem nD τ sig} {u : Unit} (h : 0 < O₀ c g u) :
    (∃ i, g = cell 1 i (rowP c)) ∨ (∃ i, g = cell 3 i (colP c)) ∨ (∃ d, g = barC d) := by
  unfold O₀ O₁ at h
  rw [Pi.add_apply, Finsupp.add_apply, Pi.add_apply, Finsupp.add_apply, tallyAt_apply, tallyAt_apply] at h
  by_cases h1 : g = barC (colP c) ∧ u = ()
  · exact .inr (.inr ⟨_, h1.1⟩)
  by_cases h2 : g = barC (rowP c) ∧ u = ()
  · exact .inr (.inr ⟨_, h2.1⟩)
  rw [if_neg h1, if_neg h2] at h
  rcases debt_pos (c := c) (n := 0) (g := g) (u := u) (by omega) with h | h
  · exact .inl h.2
  · exact .inr (.inl h.2)

def L (g : GSem nD τ sig) : Finset Unit := if g.1.2 = .tc then {()} else ∅

/-- The staging of the permutation at 0, barriers at 1, the row transfers at 2, the column transfers at 3. -/
def lvS : SemLoc sig → ℕ
  | .reg _ => 1
  | .dma j => if (j : Fin 34).val = 0 then 0 else if (j : Fin 34).val ≤ 16 then 2 else 3
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_row (c : Dev nD) (q : Fin 4) (hq : q.val < 2) (k : Fin 8) : lv (cell q k c) () = 2 := by
  show (if 8 * q.val + k.val + 1 = 0 then 0 else if 8 * q.val + k.val + 1 ≤ 16 then 2 else 3) = 2
  rw [if_neg (by omega), if_pos (by omega)]
theorem lv_col (c : Dev nD) (q : Fin 4) (hq : 2 ≤ q.val) (k : Fin 8) : lv (cell q k c) () = 3 := by
  show (if 8 * q.val + k.val + 1 = 0 then 0 else if 8 * q.val + k.val + 1 ≤ 16 then 2 else 3) = 3
  rw [if_neg (by omega), if_neg (by omega)]

/-- A device may wait on one of its cells when everything it owes is on cells of higher level. -/
theorem mayWait_of (c : Dev nD) (sm : SemLoc sig) (O : CellTallies nD τ sig Unit)
    (hO : ∀ g u, 0 < O g u → g.1.2 = .tc ∧ lvS sm < lv g ()) :
    (levAts L lv : sProp 𝕄) ⊢ MayWait (c : Thread nD τ) sm () O :=
  MayOwe.of_cut (L := L) (lev := lv) (lvS sm)
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact Nat.le_refl _)
    (fun g u hg => (hO g u hg).2)

theorem debt_above {c : Dev nD} {n : ℕ} {v : ℕ} (h2 : n < 8 → v < 2) (h3 : n < 31 → v < 3) :
    ∀ g u, 0 < debt c n g u → g.1.2 = .tc ∧ v < lv g () := fun g u hg => by
  rcases debt_pos hg with ⟨hn, i, rfl⟩ | ⟨hn, i, rfl⟩
  · exact ⟨rfl, by rw [lv_row _ 1 (by decide)]; exact h2 hn⟩
  · exact ⟨rfl, by rw [lv_col _ 3 (by decide)]; exact h3 hn⟩

theorem O₀_above {c : Dev nD} : ∀ g u, 0 < O₀ c g u → g.1.2 = .tc ∧ 0 < lv g () := fun g u hg => by
  rcases O₀_pos hg with ⟨i, rfl⟩ | ⟨i, rfl⟩ | ⟨d, rfl⟩
  · exact ⟨rfl, by rw [lv_row _ 1 (by decide)]; decide⟩
  · exact ⟨rfl, by rw [lv_col _ 3 (by decide)]; decide⟩
  · exact ⟨rfl, Nat.one_pos⟩

end Cert.KernelIdeal.Swap

end

end
-- ==== Proof.KernelIdealSteps.lean ====
/- The body's steps. After its barrier wait a device runs forty-eight operations: eight row transfers started, then for
   each piece its arrival from the row partner awaited, the piece sent on to the column partner and its row transfer
   awaited, then for each piece its arrival from the column partner and its column transfer awaited. `res xs c k s` is what
   device `c` holds for piece `k` at stage `s`, `stage n k` the stage of piece `k` before step `n`, and `T xs c n` all
   it holds then. Each kind of operation takes `T xs c n` to `T xs c (n + 1)`; there is one rule per kind. -/
module

public import proofs.«01_k».proof.Proof.KernelIdealSched

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (xs : Dev nD → Blk F)

abbrev 𝒱₀ : Variants := Variants.none

/-! ## The cells' invariants -/

/-- Every cell of every device is under its invariant, at the name `K` gives it, and at round 0. -/
def records (K : Dev nD × Fin 34 → ℕ) : sProp 𝕄 :=
  bigSep Finset.univ fun ci : Dev nD × Fin 34 => iprop(cellInv ER (sched xs) (K ci) (kcell ci) ∗ reached ER (kcell ci) 0)

instance records_persistent (K : Dev nD × Fin 34 → ℕ) : BI.Persistent (records xs K) := by unfold records; infer_instance

theorem records_at (K : Dev nD × Fin 34 → ℕ) (ci : Dev nD × Fin 34) :
    records xs K ⊢ iprop(cellInv ER (sched xs) (K ci) (kcell ci) ∗ reached ER (kcell ci) 0) :=
  bigSep_elim (Finset.mem_univ ci)

theorem records_dma (K : Dev nD × Fin 34 → ℕ) (c : Dev nD) (q : Fin 4) (k : Fin 8) :
    records xs K ⊢ iprop(cellInv ER (sched xs) (K (c, ix q k)) (cell q k c) ∗ reached ER (cell q k c) 0) :=
  (records_at xs K (c, ix q k)).trans (Entails.of_eq (by rw [kcell_ix]))
theorem records_bar (K : Dev nD × Fin 34 → ℕ) (c : Dev nD) :
    records xs K ⊢ iprop(cellInv ER (sched xs) (K (c, 0)) (barC c) ∗ reached ER (barC c) 0) :=
  (records_at xs K (c, 0)).trans (Entails.of_eq (by rw [kcell_zero]))

theorem dmaPay_0 (c : Dev nD) (k : Fin 8) : dmaPay xs c 0 k = xP xs c (hf c) k := if_pos rfl
theorem dmaPay_1 (c : Dev nD) (k : Fin 8) : dmaPay xs c 1 k = outP c (hf c) k (outF xs c) :=
  (if_neg (by decide)).trans (if_neg (by decide))
theorem dmaPay_2 (c : Dev nD) (k : Fin 8) : dmaPay xs c 2 k = outP c (hf c) k (outF xs c) :=
  (if_neg (by decide)).trans (if_neg (by decide))
theorem dmaPay_3 (c : Dev nD) (k : Fin 8) : dmaPay xs c 3 k = outP c (hf (colP c)) k (outF xs c) :=
  (if_neg (by decide)).trans (if_pos rfl)

/-! ## What is held for one piece -/

/-- The row transfer out: not started, in flight, over. -/
def rowOut (c : Dev nD) (k : Fin 8) : ℕ → sProp 𝕄
  | 0 => iprop(xP xs c (hf c) k ∗ outAny (rowP c) (hf c) k ∗ dutyTok ER (cell 0 k c) 0 false ∗ dutyTok ER (cell 1 k (rowP c)) 0 false
      ∗ atPos ER (cell 0 k c) 0 ∅ 0)
  | 1 => iprop(cred (tallyAt (cell 0 k c) () N) ∗ atPos ER (cell 0 k c) 0 ∅ 0)
  | _ => iprop(xP xs c (hf c) k ∗ atPos ER (cell 0 k c) 1 ∅ 0)

/-- The row transfer in: awaited, arrived, sent on. -/
def rowIn (c : Dev nD) (k : Fin 8) : ℕ → sProp 𝕄
  | 0 => iprop(cred (tallyAt (cell 1 k c) () N) ∗ atPos ER (cell 1 k c) 0 ∅ 0)
  | 1 => iprop(outP c (hf c) k (outF xs c) ∗ atPos ER (cell 1 k c) 1 ∅ 0)
  | _ => atPos ER (cell 1 k c) 1 ∅ 0

/-- The column transfer out: not started, in flight, over. -/
def colOut (c : Dev nD) (k : Fin 8) : ℕ → sProp 𝕄
  | 0 => iprop(outAny (colP c) (hf c) k ∗ dutyTok ER (cell 2 k c) 0 false ∗ dutyTok ER (cell 3 k (colP c)) 0 false
      ∗ atPos ER (cell 2 k c) 0 ∅ 0)
  | 1 => iprop(cred (tallyAt (cell 2 k c) () N) ∗ atPos ER (cell 2 k c) 0 ∅ 0)
  | _ => iprop(outP c (hf c) k (outF xs c) ∗ atPos ER (cell 2 k c) 1 ∅ 0)

/-- The column transfer in: awaited, arrived. -/
def colIn (c : Dev nD) (k : Fin 8) : ℕ → sProp 𝕄
  | 0 => iprop(cred (tallyAt (cell 3 k c) () N) ∗ atPos ER (cell 3 k c) 0 ∅ 0)
  | _ => iprop(outP c (hf (colP c)) k (outF xs c) ∗ atPos ER (cell 3 k c) 1 ∅ 0)

/-- The four together, at the stage of the piece. -/
def res (c : Dev nD) (k : Fin 8) : ℕ → sProp 𝕄
  | 0 => iprop(rowOut xs c k 0 ∗ rowIn xs c k 0 ∗ colOut xs c k 0 ∗ colIn xs c k 0)
  | 1 => iprop(rowOut xs c k 1 ∗ rowIn xs c k 0 ∗ colOut xs c k 0 ∗ colIn xs c k 0)
  | 2 => iprop(rowOut xs c k 1 ∗ rowIn xs c k 1 ∗ colOut xs c k 0 ∗ colIn xs c k 0)
  | 3 => iprop(rowOut xs c k 1 ∗ rowIn xs c k 2 ∗ colOut xs c k 1 ∗ colIn xs c k 0)
  | 4 => iprop(rowOut xs c k 2 ∗ rowIn xs c k 2 ∗ colOut xs c k 1 ∗ colIn xs c k 0)
  | 5 => iprop(rowOut xs c k 2 ∗ rowIn xs c k 2 ∗ colOut xs c k 1 ∗ colIn xs c k 1)
  | _ => iprop(rowOut xs c k 2 ∗ rowIn xs c k 2 ∗ colOut xs c k 2 ∗ colIn xs c k 1)

/-- The stage of piece `k` before step `n`. -/
def stage (n : ℕ) (k : Fin 8) : ℕ :=
  if n ≤ k.val then 0 else if n ≤ 8 + 3 * k.val then 1 else if n ≤ 9 + 3 * k.val then 2 else if n ≤ 10 + 3 * k.val then 3
  else if n ≤ 32 + 2 * k.val then 4 else if n ≤ 33 + 2 * k.val then 5 else 6

/-- All device `c` holds before step `n`. -/
def T (c : Dev nD) (n : ℕ) : sProp 𝕄 :=
  iprop((bigSep Finset.univ fun k : Fin 8 => res xs c k (stage n k)) ∗ ∃ W, owes (c : Thread nD τ) (debt c n) W)

/-- One piece is taken out, and put back at its next stage, the others standing still. -/
theorem focus (c : Dev nD) (k : Fin 8) {s s' : Fin 8 → ℕ} (h : ∀ j, j ≠ k → s' j = s j) :
    (bigSep Finset.univ fun j => res xs c j (s j))
      ⊢ iprop(res xs c k (s k) ∗ (res xs c k (s' k) -∗ bigSep Finset.univ fun j => res xs c j (s' j))) := by
  have e1 : (bigSep Finset.univ fun j => res xs c j (s j)) = iprop(res xs c k (s k) ∗ bigSep (Finset.univ.erase k) fun j => res xs c j (s j)) :=
    bigSep_univ_split k
  have e2 : (bigSep Finset.univ fun j => res xs c j (s' j)) = iprop(res xs c k (s' k) ∗ bigSep (Finset.univ.erase k) fun j => res xs c j (s j)) :=
    (bigSep_univ_split k).trans (congrArg (fun Y => iprop(res xs c k (s' k) ∗ Y))
      (bigSep_congr fun j hj => by rw [h j (Finset.ne_of_mem_erase hj)]))
  rw [e1, e2]
  iintro ⟨H, HR⟩
  isplitl [H]; · iexact H
  iintro H'
  isplitl [H']; · iexact H'
  iexact HR

/-- The same, with what the two stages are spelt out. -/
theorem focus_at (c : Dev nD) (k : Fin 8) {n n' : ℕ} (h : ∀ j, j ≠ k → stage n' j = stage n j) {a b : ℕ}
    (ha : stage n k = a) (hb : stage n' k = b) {X Y : sProp 𝕄} (hX : res xs c k a = X) (hY : res xs c k b = Y) :
    (bigSep Finset.univ fun j => res xs c j (stage n j))
      ⊢ iprop(X ∗ (Y -∗ bigSep Finset.univ fun j => res xs c j (stage n' j))) := by
  have f := focus xs c k h
  rw [ha, hb, hX, hY] at f
  exact f

/-! ## The stages, counted -/

theorem stage_step (k : Fin 8) (n n' : ℕ) (hn : n' = n + 1)
    (h : n = k.val ∨ n = 8 + 3 * k.val ∨ n = 9 + 3 * k.val ∨ n = 10 + 3 * k.val ∨ n = 32 + 2 * k.val ∨ n = 33 + 2 * k.val) :
    ∀ j, j ≠ k → stage n' j = stage n j := by
  intro j hj
  have hj' : j.val ≠ k.val := fun e => hj (Fin.ext e)
  have hj8 := j.isLt
  have hk8 := k.isLt
  subst hn
  have cut : ∀ t : ℕ, n ≠ t → (n + 1 ≤ t) = (n ≤ t) := fun t ht => propext ⟨fun _ => by omega, fun _ => by omega⟩
  unfold stage
  simp only [cut j.val (by omega), cut (8 + 3 * j.val) (by omega), cut (9 + 3 * j.val) (by omega), cut (10 + 3 * j.val) (by omega),
    cut (32 + 2 * j.val) (by omega), cut (33 + 2 * j.val) (by omega)]

/-! ## The rules -/

section Rules

variable (K : Dev nD × Fin 34 → ℕ) (c : Dev nD) (k : Fin 8)

/-- Starting the row transfer of piece `k`: the piece of the input leaves for the row partner's result. -/
theorem step_rowStart {α : Type} {Q : α → sProp 𝕄} {kt : PUnit → Prog (TpuEff nD τ sig (Elt F) Λ₀ .tc) α}
    (n n' : ℕ) (hn : n = k.val) (hn' : n' = k.val + 1) (p : Dev nD) (hp : p = rowP c)
    (src dst : Memref sig .tc .hbm S1x256x2048 .f32) (hs : src = xCh c k) (hd : dst = oCh c k)
    (sS sR : DmaSem sig) (hsS : sS = dS 0 k) (hsR : sR = dS 1 k)
    {hsc : (dst : Memref sig (Dev.tc p : Thread nD τ).2.kind .hbm S1x256x2048 .f32).view.ref.isScScratch = false}
    {h1 : src.view.WordExact} {h2 : dst.view.WordExact}
    {h3 : DmaTarget.Typed .hbm (.dma sR) (.remote (Dev.tc p : Thread nD τ) dst (.dma sS) hsc)} :
    iprop(records xs K ∗ T xs c n ∗ (T xs c n' -∗ wp frame (wpE (defs₀ (F := F)) 𝒱₀ (c : Thread nD τ) none) Set.univ (kt ⟨⟩) Q))
      ⊢ wp frame (wpE (defs₀ (F := F)) 𝒱₀ (c : Thread nD τ) none) Set.univ
          (.op (.enqueueDma src (.remote (Dev.tc p : Thread nD τ) dst (.dma sS) hsc) (.dma sR) h1 h2 h3) kt) Q := by
  subst hn hn' hp hs hd hsS hsR
  have hlt := k.isLt
  have e0 : stage k.val k = 0 := by unfold stage; rw [if_pos (Nat.le_refl _)]
  have e1 : stage (k.val + 1) k = 1 := by unfold stage; rw [if_neg (by omega), if_pos (by omega)]
  have f := focus_at xs c k (stage_step k k.val (k.val + 1) rfl (.inl rfl)) e0 e1
    (X := iprop((xP xs c (hf c) k ∗ (∃ fd, outP (rowP c) (hf c) k fd) ∗ dutyTok ER (cell 0 k c) 0 false ∗ dutyTok ER (cell 1 k (rowP c)) 0 false
      ∗ atPos ER (cell 0 k c) 0 ∅ 0) ∗ (rowIn xs c k 0 ∗ colOut xs c k 0 ∗ colIn xs c k 0)))
    (Y := iprop((cred (tallyAt (cell 0 k c) () N) ∗ atPos ER (cell 0 k c) 0 ∅ 0) ∗ (rowIn xs c k 0 ∗ colOut xs c k 0 ∗ colIn xs c k 0))) rfl rfl
  have hdebt : debt c k.val = debt c (k.val + 1) + tallyAt (cell 1 k (rowP c)) () N := by
    unfold debt; rw [owesX_peel c k, ← add_assoc]
    have : started k.val = started (k.val + 1) := by unfold started; omega
    rw [this]
  unfold T
  iintro ⟨#HI, ⟨HR, ⟨%W, HO⟩⟩, Hk⟩
  ihave HR := f $$ HR
  icases HR with ⟨H, HR⟩
  icases H with ⟨⟨Hx, ⟨%fd, Ho⟩, HtS, HtR, Hat⟩, Hrest⟩
  ihave #HS := (records_dma xs K c 0 k) $$ HI
  icases HS with ⟨#HIs, #HRs⟩
  ihave #HV := (records_dma xs K (rowP c) 1 k) $$ HI
  icases HV with ⟨#HIr, #HRr⟩
  iapply (Rounds.wp_send_pointsTo 𝒱₀ ER (sched xs) (c : Thread nD τ) none (κ₁ := K (c, ix 0 k)) (κ₂ := K (rowP c, ix 1 k))
    (c' := (rowP c : Thread nD τ)) (src := xCh c k) (dst := (oCh c k : Memref sig (rowP c : Thread nD τ).2.kind .hbm S1x256x2048 .f32)) (q := fullShare) (fs := xs c)
    (r₁ := 0) (r₂ := 0) (d₁ := false) (d₂ := false) (fd := fd)
    (by rw [duties_dma]; exact Finset.mem_singleton_self _) (by rw [duties_dma]; exact Finset.mem_singleton_self _)
    () () N rfl (amount_dma xs c 0 k false) (amount_dma xs (rowP c) 1 k false) (debt c (k.val + 1)) hdebt (W := W)
    (by rw [payload_dma, xCh_set]; exact BI.Entails.refl _)
    (by
      rw [payload_dma, oCh_set]; unfold dmaPay outP; rw [if_neg (by decide), if_neg (by decide), hf_rowP]
      refine Entails.of_eq (pointsTo_congr fun i hi => ?_)
      rw [outF_own xs (rowP c) (k := k) (by rw [hf_rowP]; exact hi), rowP_rowP]
      exact land_x c k fd (xs c) hi)) $$ [Hx Ho HO HtS HtR]
  · isplitr; · iexact HIs
    isplitr; · iexact HIr
    isplitl [Hx]; · rw [xCh_set]; unfold xP; iexact Hx
    isplitl [Ho]; · rw [oCh_set]; unfold outP; iexact Ho
    isplitl [HO]; · iexact HO
    isplitl [HtS]; · iexact HtS
    isplitr; · iexact HRs
    isplitl [HtR]; · iexact HtR
    iexact HRr
  iintro ⟨Hc, HO⟩
  iapply Hk
  isplitr [HO]
  · iapply HR
    isplitl [Hc Hat]
    · isplitl [Hc] <;> iassumption
    iexact Hrest
  · iexists W; iexact HO

/-- Starting the column transfer of piece `k`: what arrived from the row partner is sent on to the column partner. -/
theorem step_colStart {α : Type} {Q : α → sProp 𝕄} {kt : PUnit → Prog (TpuEff nD τ sig (Elt F) Λ₀ .tc) α}
    (n n' : ℕ) (hn : n = 9 + 3 * k.val) (hn' : n' = 10 + 3 * k.val) (p : Dev nD) (hp : p = colP c)
    (src dst : Memref sig .tc .hbm S1x256x2048 .f32) (hs : src = oCh c k) (hd : dst = oCh c k)
    (sS sR : DmaSem sig) (hsS : sS = dS 2 k) (hsR : sR = dS 3 k)
    {hsc : (dst : Memref sig (Dev.tc p : Thread nD τ).2.kind .hbm S1x256x2048 .f32).view.ref.isScScratch = false}
    {h1 : src.view.WordExact} {h2 : dst.view.WordExact}
    {h3 : DmaTarget.Typed .hbm (.dma sR) (.remote (Dev.tc p : Thread nD τ) dst (.dma sS) hsc)} :
    iprop(records xs K ∗ T xs c n ∗ (T xs c n' -∗ wp frame (wpE (defs₀ (F := F)) 𝒱₀ (c : Thread nD τ) none) Set.univ (kt ⟨⟩) Q))
      ⊢ wp frame (wpE (defs₀ (F := F)) 𝒱₀ (c : Thread nD τ) none) Set.univ
          (.op (.enqueueDma src (.remote (Dev.tc p : Thread nD τ) dst (.dma sS) hsc) (.dma sR) h1 h2 h3) kt) Q := by
  subst hn hn' hp hs hd hsS hsR
  have hlt := k.isLt
  have e0 : stage (9 + 3 * k.val) k = 2 := by unfold stage; rw [if_neg (by omega), if_neg (by omega), if_pos (by omega)]
  have e1 : stage (10 + 3 * k.val) k = 3 := by
    unfold stage; rw [if_neg (by omega), if_neg (by omega), if_neg (by omega), if_pos (by omega)]
  have f := focus_at xs c k (stage_step k (9 + 3 * k.val) (10 + 3 * k.val) (by omega) (.inr (.inr (.inl rfl)))) e0 e1
    (X := iprop(rowOut xs c k 1 ∗ (outP c (hf c) k (outF xs c) ∗ atPos ER (cell 1 k c) 1 ∅ 0)
      ∗ ((∃ fd, outP (colP c) (hf c) k fd) ∗ dutyTok ER (cell 2 k c) 0 false ∗ dutyTok ER (cell 3 k (colP c)) 0 false
        ∗ atPos ER (cell 2 k c) 0 ∅ 0) ∗ colIn xs c k 0))
    (Y := iprop(rowOut xs c k 1 ∗ atPos ER (cell 1 k c) 1 ∅ 0
      ∗ (cred (tallyAt (cell 2 k c) () N) ∗ atPos ER (cell 2 k c) 0 ∅ 0) ∗ colIn xs c k 0)) rfl rfl
  have hdebt : debt c (9 + 3 * k.val) = debt c (10 + 3 * k.val) + tallyAt (cell 3 k (colP c)) () N := by
    have s0 : started (9 + 3 * k.val) = k.val := by unfold started; omega
    have s1 : started (10 + 3 * k.val) = k.val + 1 := by unfold started; omega
    have x : owesX c (9 + 3 * k.val) = owesX c (10 + 3 * k.val) := by
      unfold owesX
      rw [Finset.filter_false_of_mem (fun i _ => by have := i.isLt; omega), Finset.filter_false_of_mem (fun i _ => by have := i.isLt; omega)]
    unfold debt; rw [s0, s1, x, owesY_peel c k, add_right_comm]
  unfold T
  iintro ⟨#HI, ⟨HR, ⟨%W, HO⟩⟩, Hk⟩
  ihave HR := f $$ HR
  icases HR with ⟨H, HR⟩
  icases H with ⟨H1, ⟨Ho, HatI⟩, ⟨⟨%fd, Hp⟩, HtS, HtR, Hat⟩, H4⟩
  ihave #HS := (records_dma xs K c 2 k) $$ HI
  icases HS with ⟨#HIs, #HRs⟩
  ihave #HV := (records_dma xs K (colP c) 3 k) $$ HI
  icases HV with ⟨#HIr, #HRr⟩
  iapply (Rounds.wp_send_pointsTo 𝒱₀ ER (sched xs) (c : Thread nD τ) none (κ₁ := K (c, ix 2 k)) (κ₂ := K (colP c, ix 3 k))
    (c' := (colP c : Thread nD τ)) (src := oCh c k) (dst := (oCh c k : Memref sig (colP c : Thread nD τ).2.kind .hbm S1x256x2048 .f32)) (q := fullShare) (fs := outF xs c)
    (r₁ := 0) (r₂ := 0) (d₁ := false) (d₂ := false) (fd := fd)
    (by rw [duties_dma]; exact Finset.mem_singleton_self _) (by rw [duties_dma]; exact Finset.mem_singleton_self _)
    () () N rfl (amount_dma xs c 2 k false) (amount_dma xs (colP c) 3 k false) (debt c (10 + 3 * k.val)) hdebt (W := W)
    (by rw [payload_dma, oCh_set]; exact BI.Entails.refl _)
    (by
      rw [payload_dma, oCh_set]; unfold dmaPay outP; rw [if_neg (by decide), if_pos rfl, colP_colP]
      refine Entails.of_eq (pointsTo_congr fun i hi => ?_)
      rw [outF_colP xs c hi]
      exact land_o c k fd (outF xs c) hi)) $$ [Ho Hp HO HtS HtR]
  · isplitr; · iexact HIs
    isplitr; · iexact HIr
    isplitl [Ho]; · rw [oCh_set]; unfold outP; iexact Ho
    isplitl [Hp]; · rw [oCh_set]; unfold outP; iexact Hp
    isplitl [HO]; · iexact HO
    isplitl [HtS]; · iexact HtS
    isplitr; · iexact HRs
    isplitl [HtR]; · iexact HtR
    iexact HRr
  iintro ⟨Hc, HO⟩
  iapply Hk
  isplitr [HO]
  · iapply HR
    isplitl [H1]; · iexact H1
    isplitl [HatI]; · iexact HatI
    isplitl [Hc Hat]
    · isplitl [Hc] <;> iassumption
    iexact H4
  · iexists W; iexact HO

/-- A wait on the cell of piece `k` in group `q`: its credit and its place at round 0 buy the piece and its place at
    round 1. -/
theorem wait_dma {α : Type} {Q : α → sProp 𝕄} {kt : PUnit → Prog (TpuEff nD τ sig (Elt F) Λ₀ .tc) α}
    (q : Fin 4) (n : ℕ) (hab : ∀ g u, 0 < debt c n g u → g.1.2 = .tc ∧ lvS (.dma (dS q k)) < lv g ()) (W : Waits sig Unit)
    (v w : Memref sig .tc .hbm S1x256x2048 .f32) (hw : w.view.dmaCredit = N) {h1 : v.view.WordExact} {h2 : w.view.WordExact} :
    iprop(records xs K ∗ levAts L lv ∗ cred (tallyAt (cell q k c) () N) ∗ atPos ER (cell q k c) 0 ∅ 0 ∗ owes (c : Thread nD τ) (debt c n) W)
      ⊢ iprop(((∃ W', owes (c : Thread nD τ) (debt c n) W') ∗ atPos ER (cell q k c) 1 ∅ 0 ∗ dmaPay xs c q k
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (dS q k) v w h1 h2) kt) Q) := by
  iintro ⟨#HI, #Hlev, Hc, Hat, HO⟩ Hk
  ihave #HS := (records_dma xs K c q k) $$ HI
  icases HS with ⟨#HIs, -⟩
  iapply (Rounds.wp_wait_rest_token 𝒱₀ ER (sched xs) (c : Thread nD τ) none (κ := K (c, ix q k))
      (wpE_waitDma2_eq 𝒱₀ (c : Thread nD τ) none Set.univ) (Set.mem_univ _) () (O := debt c n) (W := W) (R := 0) (m := 0) (T := ∅)
      (by rw [Nat.zero_add, expect_dma, hw])) $$ [Hc HO Hat]
  · isplitr; · iexact HIs
    isplitl [Hc]; · rw [hw]; iexact Hc
    isplitl [HO]; · iexact HO
    isplitr; · iapply (mayWait_of c (.dma (dS q k)) (debt c n) hab); iexact Hlev
    iexact Hat
  iintro ⟨HO, Hat, -, Hpay⟩
  ihave Hp := (Entails.of_eq (rest_dma xs c q k)) $$ Hpay
  iapply Hk
  isplitl [HO]; · iexists _; iexact HO
  isplitl [Hat]; · iexact Hat
  iexact Hp

/-- Awaiting piece `k` from the row partner. -/
theorem step_rowWait {α : Type} {Q : α → sProp 𝕄} {kt : PUnit → Prog (TpuEff nD τ sig (Elt F) Λ₀ .tc) α}
    (n n' : ℕ) (hn : n = 8 + 3 * k.val) (hn' : n' = 9 + 3 * k.val) (sm : DmaSem sig) (hsm : sm = dS 1 k)
    (v w : Memref sig .tc .hbm S1x256x2048 .f32) (hw : w.view.dmaCredit = N) {h1 : v.view.WordExact} {h2 : w.view.WordExact} :
    iprop(records xs K ∗ levAts L lv ∗ T xs c n ∗ (T xs c n' -∗ wp frame (wpE (defs₀ (F := F)) 𝒱₀ (c : Thread nD τ) none) Set.univ (kt ⟨⟩) Q))
      ⊢ wp frame (wpE (defs₀ (F := F)) 𝒱₀ (c : Thread nD τ) none) Set.univ (.op (.waitDma2 sm v w h1 h2) kt) Q := by
  subst hn hn' hsm
  have hlt := k.isLt
  have e0 : stage (8 + 3 * k.val) k = 1 := by unfold stage; rw [if_neg (by omega), if_pos (by omega)]
  have e1 : stage (9 + 3 * k.val) k = 2 := by unfold stage; rw [if_neg (by omega), if_neg (by omega), if_pos (by omega)]
  have f := focus_at xs c k (stage_step k (8 + 3 * k.val) (9 + 3 * k.val) (by omega) (.inr (.inl rfl))) e0 e1
    (X := iprop(rowOut xs c k 1 ∗ (cred (tallyAt (cell 1 k c) () N) ∗ atPos ER (cell 1 k c) 0 ∅ 0) ∗ (colOut xs c k 0 ∗ colIn xs c k 0)))
    (Y := iprop(rowOut xs c k 1 ∗ (outP c (hf c) k (outF xs c) ∗ atPos ER (cell 1 k c) 1 ∅ 0) ∗ (colOut xs c k 0 ∗ colIn xs c k 0))) rfl rfl
  have hdebt : debt c (9 + 3 * k.val) = debt c (8 + 3 * k.val) := by
    have s0 : started (9 + 3 * k.val) = started (8 + 3 * k.val) := by unfold started; omega
    have x : owesX c (9 + 3 * k.val) = owesX c (8 + 3 * k.val) := by
      unfold owesX
      rw [Finset.filter_false_of_mem (fun i _ => by have := i.isLt; omega), Finset.filter_false_of_mem (fun i _ => by have := i.isLt; omega)]
    unfold debt; rw [s0, x]
  unfold T
  rw [hdebt]
  iintro ⟨#HI, #Hlev, ⟨HR, ⟨%W, HO⟩⟩, Hk⟩
  ihave HR := f $$ HR
  icases HR with ⟨⟨H1, ⟨Hc, Hat⟩, H3⟩, HR⟩
  iapply (wait_dma xs K c k 1 (8 + 3 * k.val)
    (debt_above (fun h => by omega) (fun _ => by have e : lvS (.dma (dS 1 k)) = 2 := lv_row c 1 (by decide) k; rw [e]; decide)) W v w hw) $$ [Hc Hat HO]
  · isplitr; · iexact HI
    isplitr; · iexact Hlev
    isplitl [Hc]; · iexact Hc
    isplitl [Hat] <;> iassumption
  iintro ⟨HO, Hat, Hp⟩
  ihave Hp := (Entails.of_eq (dmaPay_1 xs c k)) $$ Hp
  iapply Hk
  isplitr [HO]
  · iapply HR
    isplitl [H1]; · iexact H1
    isplitr [H3]
    · isplitl [Hp]; · iexact Hp
      iexact Hat
    iexact H3
  · iexact HO

/-- Awaiting the row transfer of piece `k`: the piece of the input is back. -/
theorem step_rowSent {α : Type} {Q : α → sProp 𝕄} {kt : PUnit → Prog (TpuEff nD τ sig (Elt F) Λ₀ .tc) α}
    (n n' : ℕ) (hn : n = 10 + 3 * k.val) (hn' : n' = 11 + 3 * k.val) (sm : DmaSem sig) (hsm : sm = dS 0 k)
    (v w : Memref sig .tc .hbm S1x256x2048 .f32) (hw : w.view.dmaCredit = N) {h1 : v.view.WordExact} {h2 : w.view.WordExact} :
    iprop(records xs K ∗ levAts L lv ∗ T xs c n ∗ (T xs c n' -∗ wp frame (wpE (defs₀ (F := F)) 𝒱₀ (c : Thread nD τ) none) Set.univ (kt ⟨⟩) Q))
      ⊢ wp frame (wpE (defs₀ (F := F)) 𝒱₀ (c : Thread nD τ) none) Set.univ (.op (.waitDma2 sm v w h1 h2) kt) Q := by
  subst hn hn' hsm
  have hlt := k.isLt
  have e0 : stage (10 + 3 * k.val) k = 3 := by
    unfold stage; rw [if_neg (by omega), if_neg (by omega), if_neg (by omega), if_pos (by omega)]
  have e1 : stage (11 + 3 * k.val) k = 4 := by
    unfold stage; rw [if_neg (by omega), if_neg (by omega), if_neg (by omega), if_neg (by omega), if_pos (by omega)]
  have f := focus_at xs c k (stage_step k (10 + 3 * k.val) (11 + 3 * k.val) (by omega) (.inr (.inr (.inr (.inl rfl))))) e0 e1
    (X := iprop((cred (tallyAt (cell 0 k c) () N) ∗ atPos ER (cell 0 k c) 0 ∅ 0) ∗ (rowIn xs c k 2 ∗ colOut xs c k 1 ∗ colIn xs c k 0)))
    (Y := iprop((xP xs c (hf c) k ∗ atPos ER (cell 0 k c) 1 ∅ 0) ∗ (rowIn xs c k 2 ∗ colOut xs c k 1 ∗ colIn xs c k 0))) rfl rfl
  have hdebt : debt c (11 + 3 * k.val) = debt c (10 + 3 * k.val) := by
    have s0 : started (11 + 3 * k.val) = started (10 + 3 * k.val) := by unfold started; omega
    have x : owesX c (11 + 3 * k.val) = owesX c (10 + 3 * k.val) := by
      unfold owesX
      rw [Finset.filter_false_of_mem (fun i _ => by have := i.isLt; omega), Finset.filter_false_of_mem (fun i _ => by have := i.isLt; omega)]
    unfold debt; rw [s0, x]
  unfold T
  rw [hdebt]
  iintro ⟨#HI, #Hlev, ⟨HR, ⟨%W, HO⟩⟩, Hk⟩
  ihave HR := f $$ HR
  icases HR with ⟨⟨⟨Hc, Hat⟩, H3⟩, HR⟩
  iapply (wait_dma xs K c k 0 (10 + 3 * k.val)
    (debt_above (fun h => by omega) (fun _ => by have e : lvS (.dma (dS 0 k)) = 2 := lv_row c 0 (by decide) k; rw [e]; decide)) W v w hw) $$ [Hc Hat HO]
  · isplitr; · iexact HI
    isplitr; · iexact Hlev
    isplitl [Hc]; · iexact Hc
    isplitl [Hat] <;> iassumption
  iintro ⟨HO, Hat, Hp⟩
  ihave Hp := (Entails.of_eq (dmaPay_0 xs c k)) $$ Hp
  iapply Hk
  isplitr [HO]
  · iapply HR
    isplitr [H3]
    · isplitl [Hp]; · iexact Hp
      iexact Hat
    iexact H3
  · iexact HO

theorem debt_late {c : Dev nD} {n : ℕ} (hn : 32 ≤ n) : debt c n = debt c (n + 1) := by
  unfold debt owesX owesY
  rw [Finset.filter_false_of_mem (fun i _ => by have := i.isLt; unfold started; omega), Finset.filter_false_of_mem (fun i _ => by have := i.isLt; omega),
    Finset.filter_false_of_mem (fun i _ => by have := i.isLt; unfold started; omega), Finset.filter_false_of_mem (fun i _ => by have := i.isLt; omega)]

/-- Awaiting piece `k` from the column partner. -/
theorem step_colWait {α : Type} {Q : α → sProp 𝕄} {kt : PUnit → Prog (TpuEff nD τ sig (Elt F) Λ₀ .tc) α}
    (n n' : ℕ) (hn : n = 32 + 2 * k.val) (hn' : n' = 33 + 2 * k.val) (sm : DmaSem sig) (hsm : sm = dS 3 k)
    (v w : Memref sig .tc .hbm S1x256x2048 .f32) (hw : w.view.dmaCredit = N) {h1 : v.view.WordExact} {h2 : w.view.WordExact} :
    iprop(records xs K ∗ levAts L lv ∗ T xs c n ∗ (T xs c n' -∗ wp frame (wpE (defs₀ (F := F)) 𝒱₀ (c : Thread nD τ) none) Set.univ (kt ⟨⟩) Q))
      ⊢ wp frame (wpE (defs₀ (F := F)) 𝒱₀ (c : Thread nD τ) none) Set.univ (.op (.waitDma2 sm v w h1 h2) kt) Q := by
  subst hn hn' hsm
  have hlt := k.isLt
  have e0 : stage (32 + 2 * k.val) k = 4 := by
    unfold stage; rw [if_neg (by omega), if_neg (by omega), if_neg (by omega), if_neg (by omega), if_pos (by omega)]
  have e1 : stage (33 + 2 * k.val) k = 5 := by
    unfold stage; rw [if_neg (by omega), if_neg (by omega), if_neg (by omega), if_neg (by omega), if_neg (by omega), if_pos (by omega)]
  have f := focus_at xs c k (stage_step k (32 + 2 * k.val) (33 + 2 * k.val) (by omega) (.inr (.inr (.inr (.inr (.inl rfl)))))) e0 e1
    (X := iprop(rowOut xs c k 2 ∗ rowIn xs c k 2 ∗ colOut xs c k 1 ∗ (cred (tallyAt (cell 3 k c) () N) ∗ atPos ER (cell 3 k c) 0 ∅ 0)))
    (Y := iprop(rowOut xs c k 2 ∗ rowIn xs c k 2 ∗ colOut xs c k 1 ∗ (outP c (hf (colP c)) k (outF xs c) ∗ atPos ER (cell 3 k c) 1 ∅ 0))) rfl rfl
  have hdebt : debt c (33 + 2 * k.val) = debt c (32 + 2 * k.val) := by
    rw [debt_late (n := 32 + 2 * k.val) (by omega)]; congr 1; omega
  unfold T
  rw [hdebt]
  iintro ⟨#HI, #Hlev, ⟨HR, ⟨%W, HO⟩⟩, Hk⟩
  ihave HR := f $$ HR
  icases HR with ⟨⟨H1, H2, H3, ⟨Hc, Hat⟩⟩, HR⟩
  iapply (wait_dma xs K c k 3 (32 + 2 * k.val)
    (debt_above (fun h => by omega) (fun h => by omega)) W v w hw) $$ [Hc Hat HO]
  · isplitr; · iexact HI
    isplitr; · iexact Hlev
    isplitl [Hc]; · iexact Hc
    isplitl [Hat] <;> iassumption
  iintro ⟨HO, Hat, Hp⟩
  ihave Hp := (Entails.of_eq (dmaPay_3 xs c k)) $$ Hp
  iapply Hk
  isplitr [HO]
  · iapply HR
    isplitl [H1]; · iexact H1
    isplitl [H2]; · iexact H2
    isplitl [H3]; · iexact H3
    isplitl [Hp]; · iexact Hp
    iexact Hat
  · iexact HO

/-- Awaiting the column transfer of piece `k`: the piece of the result is back. -/
theorem step_colSent {α : Type} {Q : α → sProp 𝕄} {kt : PUnit → Prog (TpuEff nD τ sig (Elt F) Λ₀ .tc) α}
    (n n' : ℕ) (hn : n = 33 + 2 * k.val) (hn' : n' = 34 + 2 * k.val) (sm : DmaSem sig) (hsm : sm = dS 2 k)
    (v w : Memref sig .tc .hbm S1x256x2048 .f32) (hw : w.view.dmaCredit = N) {h1 : v.view.WordExact} {h2 : w.view.WordExact} :
    iprop(records xs K ∗ levAts L lv ∗ T xs c n ∗ (T xs c n' -∗ wp frame (wpE (defs₀ (F := F)) 𝒱₀ (c : Thread nD τ) none) Set.univ (kt ⟨⟩) Q))
      ⊢ wp frame (wpE (defs₀ (F := F)) 𝒱₀ (c : Thread nD τ) none) Set.univ (.op (.waitDma2 sm v w h1 h2) kt) Q := by
  subst hn hn' hsm
  have hlt := k.isLt
  have e0 : stage (33 + 2 * k.val) k = 5 := by
    unfold stage; rw [if_neg (by omega), if_neg (by omega), if_neg (by omega), if_neg (by omega), if_neg (by omega), if_pos (by omega)]
  have e1 : stage (34 + 2 * k.val) k = 6 := by
    unfold stage; rw [if_neg (by omega), if_neg (by omega), if_neg (by omega), if_neg (by omega), if_neg (by omega), if_neg (by omega)]
  have f := focus_at xs c k (stage_step k (33 + 2 * k.val) (34 + 2 * k.val) (by omega) (.inr (.inr (.inr (.inr (.inr rfl)))))) e0 e1
    (X := iprop(rowOut xs c k 2 ∗ rowIn xs c k 2 ∗ (cred (tallyAt (cell 2 k c) () N) ∗ atPos ER (cell 2 k c) 0 ∅ 0) ∗ colIn xs c k 1))
    (Y := iprop(rowOut xs c k 2 ∗ rowIn xs c k 2 ∗ (outP c (hf c) k (outF xs c) ∗ atPos ER (cell 2 k c) 1 ∅ 0) ∗ colIn xs c k 1)) rfl rfl
  have hdebt : debt c (34 + 2 * k.val) = debt c (33 + 2 * k.val) := by
    rw [debt_late (n := 33 + 2 * k.val) (by omega)]; congr 1; omega
  unfold T
  rw [hdebt]
  iintro ⟨#HI, #Hlev, ⟨HR, ⟨%W, HO⟩⟩, Hk⟩
  ihave HR := f $$ HR
  icases HR with ⟨⟨H1, H2, ⟨Hc, Hat⟩, H4⟩, HR⟩
  iapply (wait_dma xs K c k 2 (33 + 2 * k.val)
    (debt_above (fun h => by omega) (fun h => by omega)) W v w hw) $$ [Hc Hat HO]
  · isplitr; · iexact HI
    isplitr; · iexact Hlev
    isplitl [Hc]; · iexact Hc
    isplitl [Hat] <;> iassumption
  iintro ⟨HO, Hat, Hp⟩
  ihave Hp := (Entails.of_eq (dmaPay_2 xs c k)) $$ Hp
  iapply Hk
  isplitr [HO]
  · iapply HR
    isplitl [H1]; · iexact H1
    isplitl [H2]; · iexact H2
    isplitr [H4]
    · isplitl [Hp]; · iexact Hp
      iexact Hat
    iexact H4
  · iexact HO

end Rules

end Cert.KernelIdeal.Swap

end

end
-- ==== Proof.KernelIdealParts.lean ====
/- The body, part by part. The printed body comes in fifteen parts; each lemma here runs one of them, at a symbolic
   device, from the state before its first operation to the state after its last. The first part is the barrier (two
   signals, one wait) and the first row transfer; the others are steps of the kinds of the step rules. -/
module

public import proofs.«01_k».proof.Proof.KernelIdealSteps

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (xs : Dev nD → Blk F)

/-! ## The word a device reads, and the devices it names -/

/-- The entry of the swapping permutation `[1, 0]` at device `c`'s row: the other row. -/
def sw (c : Dev nD) : BitVec 32 := BitVec.ofNat 32 (1 - c.val / 2)

theorem sw_cond (c : Dev nD) : k0_cond1 c (sw c) = 1#1 := by revert c; decide
theorem sw_chk (c : Dev nD) : k0_chk1 c (sw c) := by revert c; decide

section Devices
variable (c : Dev nD)
theorem dev1 (v : BitVec 32) (hv : v = sw c) (h : k0_dev1 c v < nD) : (⟨k0_dev1 c v, h⟩ : Dev nD) = rowP c := by
  subst hv; exact Fin.ext (by revert c; decide)
theorem dev3 (v : BitVec 32) (hv : v = sw c) (h : k0_dev3 c v < nD) : (⟨k0_dev3 c v, h⟩ : Dev nD) = rowP c := by
  subst hv; exact Fin.ext (by revert c; decide)
theorem dev4 (v : BitVec 32) (hv : v = sw c) (h : k0_dev4 c v < nD) : (⟨k0_dev4 c v, h⟩ : Dev nD) = rowP c := by
  subst hv; exact Fin.ext (by revert c; decide)
theorem dev5 (v : BitVec 32) (hv : v = sw c) (h : k0_dev5 c v < nD) : (⟨k0_dev5 c v, h⟩ : Dev nD) = rowP c := by
  subst hv; exact Fin.ext (by revert c; decide)
theorem dev6 (v : BitVec 32) (hv : v = sw c) (h : k0_dev6 c v < nD) : (⟨k0_dev6 c v, h⟩ : Dev nD) = rowP c := by
  subst hv; exact Fin.ext (by revert c; decide)
theorem dev7 (v : BitVec 32) (hv : v = sw c) (h : k0_dev7 c v < nD) : (⟨k0_dev7 c v, h⟩ : Dev nD) = rowP c := by
  subst hv; exact Fin.ext (by revert c; decide)
theorem dev8 (v : BitVec 32) (hv : v = sw c) (h : k0_dev8 c v < nD) : (⟨k0_dev8 c v, h⟩ : Dev nD) = rowP c := by
  subst hv; exact Fin.ext (by revert c; decide)
theorem dev9 (v : BitVec 32) (hv : v = sw c) (h : k0_dev9 c v < nD) : (⟨k0_dev9 c v, h⟩ : Dev nD) = rowP c := by
  subst hv; exact Fin.ext (by revert c; decide)
theorem dev10 (v : BitVec 32) (hv : v = sw c) (h : k0_dev10 c v < nD) : (⟨k0_dev10 c v, h⟩ : Dev nD) = rowP c := by
  subst hv; exact Fin.ext (by revert c; decide)
theorem dev2 (h : k0_dev2 c < nD) : (⟨k0_dev2 c, h⟩ : Dev nD) = colP c := Fin.ext (k0_dev2_eq c)
theorem dev11 (h : k0_dev11 c < nD) : (⟨k0_dev11 c, h⟩ : Dev nD) = colP c := Fin.ext (k0_dev11_eq c)
theorem dev12 (h : k0_dev12 c < nD) : (⟨k0_dev12 c, h⟩ : Dev nD) = colP c := Fin.ext (k0_dev12_eq c)
theorem dev13 (h : k0_dev13 c < nD) : (⟨k0_dev13 c, h⟩ : Dev nD) = colP c := Fin.ext (k0_dev13_eq c)
theorem dev14 (h : k0_dev14 c < nD) : (⟨k0_dev14 c, h⟩ : Dev nD) = colP c := Fin.ext (k0_dev14_eq c)
theorem dev15 (h : k0_dev15 c < nD) : (⟨k0_dev15 c, h⟩ : Dev nD) = colP c := Fin.ext (k0_dev15_eq c)
theorem dev16 (h : k0_dev16 c < nD) : (⟨k0_dev16 c, h⟩ : Dev nD) = colP c := Fin.ext (k0_dev16_eq c)
theorem dev17 (h : k0_dev17 c < nD) : (⟨k0_dev17 c, h⟩ : Dev nD) = colP c := Fin.ext (k0_dev17_eq c)
theorem dev18 (h : k0_dev18 c < nD) : (⟨k0_dev18 c, h⟩ : Dev nD) = colP c := Fin.ext (k0_dev18_eq c)

end Devices

/-- Every piece of the argument or of the result credits a semaphore with the same number of bytes. -/
theorem credit_out (off : Fin 3 → ℕ) (h : ∀ a, off a + S1x256x2048.size a ≤ S1x4096x2048.size a) (h' : ∀ a, (Rect.unit (s := S1x4096x2048) off S1x256x2048.size h).stride a = 1) :
    (((Memref.whole main_v1 : Memref sig .tc .hbm S1x4096x2048 .f32).slice (Rect.unit (s := S1x4096x2048) off S1x256x2048.size h) h').view.dmaCredit) = N := rfl
theorem credit_arg (off : Fin 3 → ℕ) (h : ∀ a, off a + S1x256x2048.size a ≤ S1x4096x2048.size a) (h' : ∀ a, (Rect.unit (s := S1x4096x2048) off S1x256x2048.size h).stride a = 1) :
    (((Memref.whole main_arg0 : Memref sig .tc .hbm S1x4096x2048 .f32).slice (Rect.unit (s := S1x4096x2048) off S1x256x2048.size h) h').view.dmaCredit) = N := rfl

/-! ## The start -/

/-- What a device holds for piece `k` at the start, besides the pieces its partners hand it. -/
def init (c : Dev nD) (k : Fin 8) : sProp 𝕄 :=
  iprop((xP xs c (hf c) k ∗ dutyTok ER (cell 0 k c) 0 false ∗ dutyTok ER (cell 1 k (rowP c)) 0 false ∗ atPos ER (cell 0 k c) 0 ∅ 0)
    ∗ (cred (tallyAt (cell 1 k c) () N) ∗ atPos ER (cell 1 k c) 0 ∅ 0)
    ∗ (dutyTok ER (cell 2 k c) 0 false ∗ dutyTok ER (cell 3 k (colP c)) 0 false ∗ atPos ER (cell 2 k c) 0 ∅ 0)
    ∗ (cred (tallyAt (cell 3 k c) () N) ∗ atPos ER (cell 3 k c) 0 ∅ 0))

theorem init_res (c : Dev nD) (k : Fin 8) :
    iprop(init xs c k ∗ outAny (rowP c) (hf c) k ∗ outAny (colP c) (hf c) k) ⊢ res xs c k 0 := by
  show _ ⊢ iprop((xP xs c (hf c) k ∗ outAny (rowP c) (hf c) k ∗ dutyTok ER (cell 0 k c) 0 false ∗ dutyTok ER (cell 1 k (rowP c)) 0 false
      ∗ atPos ER (cell 0 k c) 0 ∅ 0)
    ∗ (cred (tallyAt (cell 1 k c) () N) ∗ atPos ER (cell 1 k c) 0 ∅ 0)
    ∗ (outAny (colP c) (hf c) k ∗ dutyTok ER (cell 2 k c) 0 false ∗ dutyTok ER (cell 3 k (colP c)) 0 false ∗ atPos ER (cell 2 k c) 0 ∅ 0)
    ∗ (cred (tallyAt (cell 3 k c) () N) ∗ atPos ER (cell 3 k c) 0 ∅ 0))
  unfold init
  iintro ⟨⟨⟨H1, H2, H3, H4⟩, H5, ⟨H6, H7, H8⟩, H9⟩, Hr, Hc⟩
  isplitl [H1 H2 H3 H4 Hr]
  · isplitl [H1]; · iexact H1
    isplitl [Hr]; · iexact Hr
    isplitl [H2]; · iexact H2
    isplitl [H3] <;> iassumption
  isplitl [H5]; · iexact H5
  isplitr [H9]
  · isplitl [Hc]; · iexact Hc
    isplitl [H6]; · iexact H6
    isplitl [H7] <;> iassumption
  iexact H9

theorem init_all (c : Dev nD) :
    iprop((bigSep Finset.univ fun k : Fin 8 => init xs c k) ∗ barPay c false ∗ barPay c true)
      ⊢ bigSep Finset.univ fun k : Fin 8 => res xs c k (stage 0 k) := by
  have e : (bigSep Finset.univ fun k : Fin 8 => iprop(init xs c k ∗ outAny (rowP c) (hf c) k ∗ outAny (colP c) (hf c) k))
      = iprop((bigSep Finset.univ fun k : Fin 8 => init xs c k) ∗ barPay c false ∗ barPay c true) := by
    rw [bigSep_sep', bigSep_sep']; rfl
  rw [← e]
  refine bigSep_mono fun k _ => ?_
  have : stage 0 k = 0 := if_pos (Nat.zero_le _)
  rw [this]; exact init_res xs c k

theorem barPay_row (c : Dev nD) : (barPay (rowP c) false : sProp 𝕄) = bigSep Finset.univ fun k : Fin 8 => outAny (F := F) c (hf c) k := by
  show (bigSep Finset.univ fun k : Fin 8 => outAny (F := F) (rowP (rowP c)) (hf (rowP c)) k) = _
  rw [rowP_rowP, hf_rowP]
theorem barPay_col (c : Dev nD) : (barPay (colP c) true : sProp 𝕄) = bigSep Finset.univ fun k : Fin 8 => outAny (F := F) c (hf (colP c)) k := by
  show (bigSep Finset.univ fun k : Fin 8 => outAny (F := F) (colP (colP c)) (hf (colP c)) k) = _
  rw [colP_colP]

/-- What a device's body starts from, the pieces of its own result among it. -/
def start (c : Dev nD) : sProp 𝕄 :=
  iprop((bigSep Finset.univ fun k : Fin 8 => init xs c k)
    ∗ (bigSep Finset.univ fun k : Fin 8 => outAny (F := F) c (hf c) k) ∗ (bigSep Finset.univ fun k : Fin 8 => outAny (F := F) c (hf (colP c)) k)
    ∗ dutyTok ER (barC (rowP c)) 0 false ∗ dutyTok ER (barC (colP c)) 0 true
    ∗ cred (tallyAt (barC c) () 2) ∗ atPos ER (barC c) 0 ∅ 0)

/-! ## The parts -/

section Parts

variable (K : Dev nD × Fin 34 → ℕ) (c : Dev nD)
variable (a0 : Memref sig .tc .smem S2 .i32) (ha0 : a0.IsWhole)

abbrev xA : Memref sig .tc .hbm S1x4096x2048 .f32 := Memref.whole main_arg0
abbrev oA : Memref sig .tc .hbm S1x4096x2048 .f32 := Memref.whole main_v1

theorem part1 {Q : PUnit → sProp 𝕄} (v2 v5 v8 v9 : BitVec 32) (v7 : Elt F .i32) (hv : v7 = sw c) (hw : k0_chk1 c v7) (hc : k0_cond1 c v7 = 1#1)
    (W : Waits sig Unit) :
    iprop(records xs K ∗ levAts L lv ∗ owes (c : Thread nD τ) (O₀ c) W ∗ start xs c ∗ (∀ r, (T xs c 1 ∗ atPos ER (barC c) 1 ∅ 0) -∗ Q r))
      ⊢ wp frame (wpE (defs₀ (F := F)) 𝒱₀ (c : Thread nD τ) none) Set.univ
          (k0_part1 a0 ha0 xA (Memref.isWhole_whole _) oA (Memref.isWhole_whole _) cc0_scratch0 cc0_scratch1 cc0_scratch2 cc0_scratch3 cc0_scratch4
            c v2 v5 v7 hw v8 v9 hc) Q := by
  rw [k0_part1_eq_skeleton]; unfold k0_part1_skel
  simp only [semSignalWord, semWaitWord, Prog.lift, Prog.bind_op, Prog.bind_ret, Prog.pure_eq_ret]
  unfold start
  iintro ⟨#HI, #Hlev, HO, ⟨Hinit, Hmine, Hmine', HtR, HtC, Hcr, Hat⟩, Hk⟩
  ihave #HS := (records_bar xs K c) $$ HI
  icases HS with ⟨#HIb, -⟩
  ihave #HS := (records_bar xs K (rowP c)) $$ HI
  icases HS with ⟨#HIr, #HRr⟩
  ihave #HS := (records_bar xs K (colP c)) $$ HI
  icases HS with ⟨#HIc, #HRc⟩
  simp only [dev1 c v7 hv, dev2 c]
  iapply (Rounds.wp_signal 𝒱₀ ER (sched xs) (c : Thread nD τ) none (dst := (rowP c : Thread nD τ)) (κ := K (rowP c, 0))
      (d := false) (by rw [duties_bar]; exact Finset.mem_univ _) ((amount_bar xs (rowP c) false).trans (by decide)) () (O₁ c) rfl)
    $$ [HO HtR Hmine]
  · isplitr; · iexact HIr
    isplitl [HO]; · iexact HO
    isplitl [HtR]; · iexact HtR
    isplitl [Hmine]; · rw [payload_bar, barPay_row]; iexact Hmine
    iexact HRr
  iintro HO
  iapply (Rounds.wp_signal 𝒱₀ ER (sched xs) (c : Thread nD τ) none (dst := (colP c : Thread nD τ)) (κ := K (colP c, 0))
      (d := true) (by rw [duties_bar]; exact Finset.mem_univ _) ((amount_bar xs (colP c) true).trans (by decide)) () (debt c 0) rfl)
    $$ [HO HtC Hmine']
  · isplitr; · iexact HIc
    isplitl [HO]; · iexact HO
    isplitl [HtC]; · iexact HtC
    isplitl [Hmine']; · rw [payload_bar, barPay_col]; iexact Hmine'
    iexact HRc
  iintro HO
  iapply (Rounds.wp_wait_rest_token 𝒱₀ ER (sched xs) (c : Thread nD τ) none (κ := K (c, 0))
      (wpE_semWait_eq 𝒱₀ (c : Thread nD τ) none Set.univ) (Set.mem_univ _) () (O := debt c 0) (W := W) (R := 0) (m := 0) (T := ∅)
      (by rw [expect_bar]; decide)) $$ [Hcr HO Hat]
  · isplitr; · iexact HIb
    isplitl [Hcr]; · iexact Hcr
    isplitl [HO]; · iexact HO
    isplitr; · iapply (mayWait_of c (.reg barS) (debt c 0) (debt_above (v := 1) (fun _ => by decide) (fun _ => by decide))); iexact Hlev
    iexact Hat
  iintro ⟨HO, Hat, -, Hpay⟩
  ihave Hp := (Entails.of_eq (rest_bar xs c)) $$ Hpay
  icases Hp with ⟨Hp1, Hp2⟩
  ihave HR := (init_all xs c) $$ [Hinit Hp1 Hp2]
  · isplitl [Hinit]; · iexact Hinit
    isplitl [Hp1] <;> iassumption
  ihave HT := (show iprop((bigSep Finset.univ fun k : Fin 8 => res xs c k (stage 0 k)) ∗ ∃ W, owes (c : Thread nD τ) (debt c 0) W) ⊢ T xs c 0 from BI.Entails.refl _) $$ [HR HO]
  · isplitl [HR]; · iexact HR
    iexists _; iexact HO
  iapply (step_rowStart xs K c 0 0 1 rfl rfl _ (dev3 c v7 hv _) _ _ rfl rfl _ _ rfl rfl)
  isplitr; · iexact HI
  isplitl [HT]; · iexact HT
  iintro HT
  rw [wp_ret]; imodintro
  iapply Hk
  isplitl [HT] <;> iassumption

theorem part2 {Q : (Σ' (v72 : BitVec 32), BitVec 32) → sProp 𝕄} (v5 v9 : BitVec 32) (v7 : Elt F .i32) (hv : v7 = sw c) (hw : k0_chk1 c v7) (hc : k0_cond1 c v7 = 1#1) :
    iprop(records xs K ∗ levAts L lv ∗ T xs c 1 ∗ (∀ r, T xs c 4 -∗ Q r))
      ⊢ wp frame (wpE (defs₀ (F := F)) 𝒱₀ (c : Thread nD τ) none) Set.univ
          (k0_part2 a0 ha0 xA (Memref.isWhole_whole _) oA (Memref.isWhole_whole _) cc0_scratch0 cc0_scratch1 cc0_scratch2 cc0_scratch3 cc0_scratch4
            c v5 v7 hw v9 hc) Q := by
  rw [k0_part2_eq_skeleton]; unfold k0_part2_skel
  simp only [Prog.lift, Prog.bind_op, Prog.bind_ret, Prog.pure_eq_ret]
  iintro ⟨#HI, #Hlev, HT, Hk⟩
  iapply (step_rowStart xs K c 1 1 2 rfl rfl _ (dev4 c v7 hv _) _ _ rfl rfl _ _ rfl rfl)
  isplitr; · iexact HI
  isplitl [HT]; · iexact HT
  iintro HT
  iapply (step_rowStart xs K c 2 2 3 rfl rfl _ (dev5 c v7 hv _) _ _ rfl rfl _ _ rfl rfl)
  isplitr; · iexact HI
  isplitl [HT]; · iexact HT
  iintro HT
  iapply (step_rowStart xs K c 3 3 4 rfl rfl _ (dev6 c v7 hv _) _ _ rfl rfl _ _ rfl rfl)
  isplitr; · iexact HI
  isplitl [HT]; · iexact HT
  iintro HT
  rw [wp_ret]; imodintro
  iapply Hk; iexact HT

theorem part3 {Q : PUnit → sProp 𝕄} (v5 v9 : BitVec 32) (v7 : Elt F .i32) (hv : v7 = sw c) (hw : k0_chk1 c v7) (hc : k0_cond1 c v7 = 1#1) (v72 v73 : BitVec 32) :
    iprop(records xs K ∗ levAts L lv ∗ T xs c 4 ∗ (∀ r, T xs c 7 -∗ Q r))
      ⊢ wp frame (wpE (defs₀ (F := F)) 𝒱₀ (c : Thread nD τ) none) Set.univ
          (k0_part3 a0 ha0 xA (Memref.isWhole_whole _) oA (Memref.isWhole_whole _) cc0_scratch0 cc0_scratch1 cc0_scratch2 cc0_scratch3 cc0_scratch4
            c v5 v7 hw v9 hc v72 v73) Q := by
  rw [k0_part3_eq_skeleton]; unfold k0_part3_skel
  simp only [Prog.lift, Prog.bind_op, Prog.bind_ret, Prog.pure_eq_ret]
  iintro ⟨#HI, #Hlev, HT, Hk⟩
  iapply (step_rowStart xs K c 4 4 5 rfl rfl _ (dev7 c v7 hv _) _ _ rfl rfl _ _ rfl rfl)
  isplitr; · iexact HI
  isplitl [HT]; · iexact HT
  iintro HT
  iapply (step_rowStart xs K c 5 5 6 rfl rfl _ (dev8 c v7 hv _) _ _ rfl rfl _ _ rfl rfl)
  isplitr; · iexact HI
  isplitl [HT]; · iexact HT
  iintro HT
  iapply (step_rowStart xs K c 6 6 7 rfl rfl _ (dev9 c v7 hv _) _ _ rfl rfl _ _ rfl rfl)
  isplitr; · iexact HI
  isplitl [HT]; · iexact HT
  iintro HT
  rw [wp_ret]; imodintro
  iapply Hk; iexact HT

theorem part4 {Q : PUnit → sProp 𝕄} (v2 v5 v8 v9 : BitVec 32) (v7 : Elt F .i32) (hv : v7 = sw c) (hw : k0_chk1 c v7) (hc : k0_cond1 c v7 = 1#1) :
    iprop(records xs K ∗ levAts L lv ∗ T xs c 7 ∗ (∀ r, T xs c 10 -∗ Q r))
      ⊢ wp frame (wpE (defs₀ (F := F)) 𝒱₀ (c : Thread nD τ) none) Set.univ
          (k0_part4 a0 ha0 xA (Memref.isWhole_whole _) oA (Memref.isWhole_whole _) cc0_scratch0 cc0_scratch1 cc0_scratch2 cc0_scratch3 cc0_scratch4
            c v2 v5 v7 hw v8 v9 hc) Q := by
  rw [k0_part4_eq_skeleton]; unfold k0_part4_skel
  simp only [Prog.lift, Prog.bind_op, Prog.bind_ret, Prog.pure_eq_ret]
  iintro ⟨#HI, #Hlev, HT, Hk⟩
  iapply (step_rowStart xs K c 7 7 8 rfl rfl _ (dev10 c v7 hv _) _ _ rfl rfl _ _ rfl rfl)
  isplitr; · iexact HI
  isplitl [HT]; · iexact HT
  iintro HT
  iapply (step_rowWait xs K c 0 8 9 rfl rfl _ rfl _ _ (credit_out _ _ _))
  isplitr; · iexact HI
  isplitr; · iexact Hlev
  isplitl [HT]; · iexact HT
  iintro HT
  iapply (step_colStart xs K c 0 9 10 rfl rfl _ (dev11 c _) _ _ rfl rfl _ _ rfl rfl)
  isplitr; · iexact HI
  isplitl [HT]; · iexact HT
  iintro HT
  rw [wp_ret]; imodintro
  iapply Hk; iexact HT

theorem part5 {Q : PUnit → sProp 𝕄} (v2 v5 v8 v9 : BitVec 32) (v7 : Elt F .i32) :
    iprop(records xs K ∗ levAts L lv ∗ T xs c 10 ∗ (∀ r, T xs c 13 -∗ Q r))
      ⊢ wp frame (wpE (defs₀ (F := F)) 𝒱₀ (c : Thread nD τ) none) Set.univ
          (k0_part5 a0 ha0 xA (Memref.isWhole_whole _) oA (Memref.isWhole_whole _) cc0_scratch0 cc0_scratch1 cc0_scratch2 cc0_scratch3 cc0_scratch4
            c v2 v5 v7 v8 v9) Q := by
  rw [k0_part5_eq_skeleton]; unfold k0_part5_skel
  simp only [Prog.lift, Prog.bind_op, Prog.bind_ret, Prog.pure_eq_ret]
  iintro ⟨#HI, #Hlev, HT, Hk⟩
  iapply (step_rowSent xs K c 0 10 11 rfl rfl _ rfl _ _ (credit_arg _ _ _))
  isplitr; · iexact HI
  isplitr; · iexact Hlev
  isplitl [HT]; · iexact HT
  iintro HT
  iapply (step_rowWait xs K c 1 11 12 rfl rfl _ rfl _ _ (credit_out _ _ _))
  isplitr; · iexact HI
  isplitr; · iexact Hlev
  isplitl [HT]; · iexact HT
  iintro HT
  iapply (step_colStart xs K c 1 12 13 rfl rfl _ (dev12 c _) _ _ rfl rfl _ _ rfl rfl)
  isplitr; · iexact HI
  isplitl [HT]; · iexact HT
  iintro HT
  rw [wp_ret]; imodintro
  iapply Hk; iexact HT

theorem part6 {Q : PUnit → sProp 𝕄} (v2 v5 v8 v9 : BitVec 32) (v7 : Elt F .i32) :
    iprop(records xs K ∗ levAts L lv ∗ T xs c 13 ∗ (∀ r, T xs c 17 -∗ Q r))
      ⊢ wp frame (wpE (defs₀ (F := F)) 𝒱₀ (c : Thread nD τ) none) Set.univ
          (k0_part6 a0 ha0 xA (Memref.isWhole_whole _) oA (Memref.isWhole_whole _) cc0_scratch0 cc0_scratch1 cc0_scratch2 cc0_scratch3 cc0_scratch4
            c v2 v5 v7 v8 v9) Q := by
  rw [k0_part6_eq_skeleton]; unfold k0_part6_skel
  simp only [Prog.lift, Prog.bind_op, Prog.bind_ret, Prog.pure_eq_ret]
  iintro ⟨#HI, #Hlev, HT, Hk⟩
  iapply (step_rowSent xs K c 1 13 14 rfl rfl _ rfl _ _ (credit_arg _ _ _))
  isplitr; · iexact HI
  isplitr; · iexact Hlev
  isplitl [HT]; · iexact HT
  iintro HT
  iapply (step_rowWait xs K c 2 14 15 rfl rfl _ rfl _ _ (credit_out _ _ _))
  isplitr; · iexact HI
  isplitr; · iexact Hlev
  isplitl [HT]; · iexact HT
  iintro HT
  iapply (step_colStart xs K c 2 15 16 rfl rfl _ (dev13 c _) _ _ rfl rfl _ _ rfl rfl)
  isplitr; · iexact HI
  isplitl [HT]; · iexact HT
  iintro HT
  iapply (step_rowSent xs K c 2 16 17 rfl rfl _ rfl _ _ (credit_arg _ _ _))
  isplitr; · iexact HI
  isplitr; · iexact Hlev
  isplitl [HT]; · iexact HT
  iintro HT
  rw [wp_ret]; imodintro
  iapply Hk; iexact HT

theorem part7 {Q : (BitVec 32) → sProp 𝕄} (v2 v5 v8 v9 : BitVec 32) (v7 : Elt F .i32) :
    iprop(records xs K ∗ levAts L lv ∗ T xs c 17 ∗ (∀ r, T xs c 20 -∗ Q r))
      ⊢ wp frame (wpE (defs₀ (F := F)) 𝒱₀ (c : Thread nD τ) none) Set.univ
          (k0_part7 a0 ha0 xA (Memref.isWhole_whole _) oA (Memref.isWhole_whole _) cc0_scratch0 cc0_scratch1 cc0_scratch2 cc0_scratch3 cc0_scratch4
            c v2 v5 v7 v8 v9) Q := by
  rw [k0_part7_eq_skeleton]; unfold k0_part7_skel
  simp only [Prog.lift, Prog.bind_op, Prog.bind_ret, Prog.pure_eq_ret]
  iintro ⟨#HI, #Hlev, HT, Hk⟩
  iapply (step_rowWait xs K c 3 17 18 rfl rfl _ rfl _ _ (credit_out _ _ _))
  isplitr; · iexact HI
  isplitr; · iexact Hlev
  isplitl [HT]; · iexact HT
  iintro HT
  iapply (step_colStart xs K c 3 18 19 rfl rfl _ (dev14 c _) _ _ rfl rfl _ _ rfl rfl)
  isplitr; · iexact HI
  isplitl [HT]; · iexact HT
  iintro HT
  iapply (step_rowSent xs K c 3 19 20 rfl rfl _ rfl _ _ (credit_arg _ _ _))
  isplitr; · iexact HI
  isplitr; · iexact Hlev
  isplitl [HT]; · iexact HT
  iintro HT
  rw [wp_ret]; imodintro
  iapply Hk; iexact HT

theorem part8 {Q : PUnit → sProp 𝕄} (v2 v5 v8 v9 : BitVec 32) (v7 : Elt F .i32) (v211 : BitVec 32) :
    iprop(records xs K ∗ levAts L lv ∗ T xs c 20 ∗ (∀ r, T xs c 23 -∗ Q r))
      ⊢ wp frame (wpE (defs₀ (F := F)) 𝒱₀ (c : Thread nD τ) none) Set.univ
          (k0_part8 a0 ha0 xA (Memref.isWhole_whole _) oA (Memref.isWhole_whole _) cc0_scratch0 cc0_scratch1 cc0_scratch2 cc0_scratch3 cc0_scratch4
            c v2 v5 v7 v8 v9 v211) Q := by
  rw [k0_part8_eq_skeleton]; unfold k0_part8_skel
  simp only [Prog.lift, Prog.bind_op, Prog.bind_ret, Prog.pure_eq_ret]
  iintro ⟨#HI, #Hlev, HT, Hk⟩
  iapply (step_rowWait xs K c 4 20 21 rfl rfl _ rfl _ _ (credit_out _ _ _))
  isplitr; · iexact HI
  isplitr; · iexact Hlev
  isplitl [HT]; · iexact HT
  iintro HT
  iapply (step_colStart xs K c 4 21 22 rfl rfl _ (dev15 c _) _ _ rfl rfl _ _ rfl rfl)
  isplitr; · iexact HI
  isplitl [HT]; · iexact HT
  iintro HT
  iapply (step_rowSent xs K c 4 22 23 rfl rfl _ rfl _ _ (credit_arg _ _ _))
  isplitr; · iexact HI
  isplitr; · iexact Hlev
  isplitl [HT]; · iexact HT
  iintro HT
  rw [wp_ret]; imodintro
  iapply Hk; iexact HT

theorem part9 {Q : PUnit → sProp 𝕄} (v2 v5 v8 v9 : BitVec 32) (v7 : Elt F .i32) :
    iprop(records xs K ∗ levAts L lv ∗ T xs c 23 ∗ (∀ r, T xs c 26 -∗ Q r))
      ⊢ wp frame (wpE (defs₀ (F := F)) 𝒱₀ (c : Thread nD τ) none) Set.univ
          (k0_part9 a0 ha0 xA (Memref.isWhole_whole _) oA (Memref.isWhole_whole _) cc0_scratch0 cc0_scratch1 cc0_scratch2 cc0_scratch3 cc0_scratch4
            c v2 v5 v7 v8 v9) Q := by
  rw [k0_part9_eq_skeleton]; unfold k0_part9_skel
  simp only [Prog.lift, Prog.bind_op, Prog.bind_ret, Prog.pure_eq_ret]
  iintro ⟨#HI, #Hlev, HT, Hk⟩
  iapply (step_rowWait xs K c 5 23 24 rfl rfl _ rfl _ _ (credit_out _ _ _))
  isplitr; · iexact HI
  isplitr; · iexact Hlev
  isplitl [HT]; · iexact HT
  iintro HT
  iapply (step_colStart xs K c 5 24 25 rfl rfl _ (dev16 c _) _ _ rfl rfl _ _ rfl rfl)
  isplitr; · iexact HI
  isplitl [HT]; · iexact HT
  iintro HT
  iapply (step_rowSent xs K c 5 25 26 rfl rfl _ rfl _ _ (credit_arg _ _ _))
  isplitr; · iexact HI
  isplitr; · iexact Hlev
  isplitl [HT]; · iexact HT
  iintro HT
  rw [wp_ret]; imodintro
  iapply Hk; iexact HT

theorem part10 {Q : PUnit → sProp 𝕄} (v2 v5 v8 v9 : BitVec 32) (v7 : Elt F .i32) :
    iprop(records xs K ∗ levAts L lv ∗ T xs c 26 ∗ (∀ r, T xs c 30 -∗ Q r))
      ⊢ wp frame (wpE (defs₀ (F := F)) 𝒱₀ (c : Thread nD τ) none) Set.univ
          (k0_part10 a0 ha0 xA (Memref.isWhole_whole _) oA (Memref.isWhole_whole _) cc0_scratch0 cc0_scratch1 cc0_scratch2 cc0_scratch3 cc0_scratch4
            c v2 v5 v7 v8 v9) Q := by
  rw [k0_part10_eq_skeleton]; unfold k0_part10_skel
  simp only [Prog.lift, Prog.bind_op, Prog.bind_ret, Prog.pure_eq_ret]
  iintro ⟨#HI, #Hlev, HT, Hk⟩
  iapply (step_rowWait xs K c 6 26 27 rfl rfl _ rfl _ _ (credit_out _ _ _))
  isplitr; · iexact HI
  isplitr; · iexact Hlev
  isplitl [HT]; · iexact HT
  iintro HT
  iapply (step_colStart xs K c 6 27 28 rfl rfl _ (dev17 c _) _ _ rfl rfl _ _ rfl rfl)
  isplitr; · iexact HI
  isplitl [HT]; · iexact HT
  iintro HT
  iapply (step_rowSent xs K c 6 28 29 rfl rfl _ rfl _ _ (credit_arg _ _ _))
  isplitr; · iexact HI
  isplitr; · iexact Hlev
  isplitl [HT]; · iexact HT
  iintro HT
  iapply (step_rowWait xs K c 7 29 30 rfl rfl _ rfl _ _ (credit_out _ _ _))
  isplitr; · iexact HI
  isplitr; · iexact Hlev
  isplitl [HT]; · iexact HT
  iintro HT
  rw [wp_ret]; imodintro
  iapply Hk; iexact HT

theorem part11 {Q : PUnit → sProp 𝕄} (v2 v8 v9 v10 : BitVec 32) :
    iprop(records xs K ∗ levAts L lv ∗ T xs c 30 ∗ (∀ r, T xs c 33 -∗ Q r))
      ⊢ wp frame (wpE (defs₀ (F := F)) 𝒱₀ (c : Thread nD τ) none) Set.univ
          (k0_part11 a0 ha0 xA (Memref.isWhole_whole _) oA (Memref.isWhole_whole _) cc0_scratch0 cc0_scratch1 cc0_scratch2 cc0_scratch3 cc0_scratch4
            c v2 v8 v9 v10) Q := by
  rw [k0_part11_eq_skeleton]; unfold k0_part11_skel
  simp only [Prog.lift, Prog.bind_op, Prog.bind_ret, Prog.pure_eq_ret]
  iintro ⟨#HI, #Hlev, HT, Hk⟩
  iapply (step_colStart xs K c 7 30 31 rfl rfl _ (dev18 c _) _ _ rfl rfl _ _ rfl rfl)
  isplitr; · iexact HI
  isplitl [HT]; · iexact HT
  iintro HT
  iapply (step_rowSent xs K c 7 31 32 rfl rfl _ rfl _ _ (credit_arg _ _ _))
  isplitr; · iexact HI
  isplitr; · iexact Hlev
  isplitl [HT]; · iexact HT
  iintro HT
  iapply (step_colWait xs K c 0 32 33 rfl rfl _ rfl _ _ (credit_out _ _ _))
  isplitr; · iexact HI
  isplitr; · iexact Hlev
  isplitl [HT]; · iexact HT
  iintro HT
  rw [wp_ret]; imodintro
  iapply Hk; iexact HT

theorem part12 {Q : PUnit → sProp 𝕄} (v2 v8 v9 v10 : BitVec 32) :
    iprop(records xs K ∗ levAts L lv ∗ T xs c 33 ∗ (∀ r, T xs c 37 -∗ Q r))
      ⊢ wp frame (wpE (defs₀ (F := F)) 𝒱₀ (c : Thread nD τ) none) Set.univ
          (k0_part12 a0 ha0 xA (Memref.isWhole_whole _) oA (Memref.isWhole_whole _) cc0_scratch0 cc0_scratch1 cc0_scratch2 cc0_scratch3 cc0_scratch4
            c v2 v8 v9 v10) Q := by
  rw [k0_part12_eq_skeleton]; unfold k0_part12_skel
  simp only [Prog.lift, Prog.bind_op, Prog.bind_ret, Prog.pure_eq_ret]
  iintro ⟨#HI, #Hlev, HT, Hk⟩
  iapply (step_colSent xs K c 0 33 34 rfl rfl _ rfl _ _ (credit_out _ _ _))
  isplitr; · iexact HI
  isplitr; · iexact Hlev
  isplitl [HT]; · iexact HT
  iintro HT
  iapply (step_colWait xs K c 1 34 35 rfl rfl _ rfl _ _ (credit_out _ _ _))
  isplitr; · iexact HI
  isplitr; · iexact Hlev
  isplitl [HT]; · iexact HT
  iintro HT
  iapply (step_colSent xs K c 1 35 36 rfl rfl _ rfl _ _ (credit_out _ _ _))
  isplitr; · iexact HI
  isplitr; · iexact Hlev
  isplitl [HT]; · iexact HT
  iintro HT
  iapply (step_colWait xs K c 2 36 37 rfl rfl _ rfl _ _ (credit_out _ _ _))
  isplitr; · iexact HI
  isplitr; · iexact Hlev
  isplitl [HT]; · iexact HT
  iintro HT
  rw [wp_ret]; imodintro
  iapply Hk; iexact HT

theorem part13 {Q : PUnit → sProp 𝕄} (v2 v8 v9 v10 : BitVec 32) :
    iprop(records xs K ∗ levAts L lv ∗ T xs c 37 ∗ (∀ r, T xs c 40 -∗ Q r))
      ⊢ wp frame (wpE (defs₀ (F := F)) 𝒱₀ (c : Thread nD τ) none) Set.univ
          (k0_part13 a0 ha0 xA (Memref.isWhole_whole _) oA (Memref.isWhole_whole _) cc0_scratch0 cc0_scratch1 cc0_scratch2 cc0_scratch3 cc0_scratch4
            c v2 v8 v9 v10) Q := by
  rw [k0_part13_eq_skeleton]; unfold k0_part13_skel
  simp only [Prog.lift, Prog.bind_op, Prog.bind_ret, Prog.pure_eq_ret]
  iintro ⟨#HI, #Hlev, HT, Hk⟩
  iapply (step_colSent xs K c 2 37 38 rfl rfl _ rfl _ _ (credit_out _ _ _))
  isplitr; · iexact HI
  isplitr; · iexact Hlev
  isplitl [HT]; · iexact HT
  iintro HT
  iapply (step_colWait xs K c 3 38 39 rfl rfl _ rfl _ _ (credit_out _ _ _))
  isplitr; · iexact HI
  isplitr; · iexact Hlev
  isplitl [HT]; · iexact HT
  iintro HT
  iapply (step_colSent xs K c 3 39 40 rfl rfl _ rfl _ _ (credit_out _ _ _))
  isplitr; · iexact HI
  isplitr; · iexact Hlev
  isplitl [HT]; · iexact HT
  iintro HT
  rw [wp_ret]; imodintro
  iapply Hk; iexact HT

theorem part14 {Q : (BitVec 32) → sProp 𝕄} (v2 v8 v9 v10 : BitVec 32) :
    iprop(records xs K ∗ levAts L lv ∗ T xs c 40 ∗ (∀ r, T xs c 44 -∗ Q r))
      ⊢ wp frame (wpE (defs₀ (F := F)) 𝒱₀ (c : Thread nD τ) none) Set.univ
          (k0_part14 a0 ha0 xA (Memref.isWhole_whole _) oA (Memref.isWhole_whole _) cc0_scratch0 cc0_scratch1 cc0_scratch2 cc0_scratch3 cc0_scratch4
            c v2 v8 v9 v10) Q := by
  rw [k0_part14_eq_skeleton]; unfold k0_part14_skel
  simp only [Prog.lift, Prog.bind_op, Prog.bind_ret, Prog.pure_eq_ret]
  iintro ⟨#HI, #Hlev, HT, Hk⟩
  iapply (step_colWait xs K c 4 40 41 rfl rfl _ rfl _ _ (credit_out _ _ _))
  isplitr; · iexact HI
  isplitr; · iexact Hlev
  isplitl [HT]; · iexact HT
  iintro HT
  iapply (step_colSent xs K c 4 41 42 rfl rfl _ rfl _ _ (credit_out _ _ _))
  isplitr; · iexact HI
  isplitr; · iexact Hlev
  isplitl [HT]; · iexact HT
  iintro HT
  iapply (step_colWait xs K c 5 42 43 rfl rfl _ rfl _ _ (credit_out _ _ _))
  isplitr; · iexact HI
  isplitr; · iexact Hlev
  isplitl [HT]; · iexact HT
  iintro HT
  iapply (step_colSent xs K c 5 43 44 rfl rfl _ rfl _ _ (credit_out _ _ _))
  isplitr; · iexact HI
  isplitr; · iexact Hlev
  isplitl [HT]; · iexact HT
  iintro HT
  rw [wp_ret]; imodintro
  iapply Hk; iexact HT

theorem part15 {Q : PUnit → sProp 𝕄} (v2 v8 v9 v10 : BitVec 32) (v391 : BitVec 32) :
    iprop(records xs K ∗ levAts L lv ∗ T xs c 44 ∗ (∀ r, T xs c 47 -∗ Q r))
      ⊢ wp frame (wpE (defs₀ (F := F)) 𝒱₀ (c : Thread nD τ) none) Set.univ
          (k0_part15 a0 ha0 xA (Memref.isWhole_whole _) oA (Memref.isWhole_whole _) cc0_scratch0 cc0_scratch1 cc0_scratch2 cc0_scratch3 cc0_scratch4
            c v2 v8 v9 v10 v391) Q := by
  rw [k0_part15_eq_skeleton]; unfold k0_part15_skel
  simp only [Prog.lift, Prog.bind_op, Prog.bind_ret, Prog.pure_eq_ret]
  iintro ⟨#HI, #Hlev, HT, Hk⟩
  iapply (step_colWait xs K c 6 44 45 rfl rfl _ rfl _ _ (credit_out _ _ _))
  isplitr; · iexact HI
  isplitr; · iexact Hlev
  isplitl [HT]; · iexact HT
  iintro HT
  iapply (step_colSent xs K c 6 45 46 rfl rfl _ rfl _ _ (credit_out _ _ _))
  isplitr; · iexact HI
  isplitr; · iexact Hlev
  isplitl [HT]; · iexact HT
  iintro HT
  iapply (step_colWait xs K c 7 46 47 rfl rfl _ rfl _ _ (credit_out _ _ _))
  isplitr; · iexact HI
  isplitr; · iexact Hlev
  isplitl [HT]; · iexact HT
  iintro HT
  rw [wp_ret]; imodintro
  iapply Hk; iexact HT

end Parts

end Cert.KernelIdeal.Swap

end

end
-- ==== Proof.KernelIdealBody.lean ====
/- The whole body in the swapping case, at a symbolic device, and what it leaves: the argument as it was, the result at
   `outF`, every semaphore back at zero. -/
module

public import proofs.«01_k».proof.Proof.KernelIdealParts

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (xs : Dev nD → Blk F)

/-! ## Conjunctions over the cells and the pieces -/

/-- A conjunction over a device's 34 cells: the barrier, the local copy's, and four groups of eight. -/
theorem cells_split (Φ : Fin 34 → sProp 𝕄) : bigSep Finset.univ Φ
    = iprop(Φ 0 ∗ Φ 33 ∗ (bigSep Finset.univ fun k => Φ (ix 0 k)) ∗ (bigSep Finset.univ fun k => Φ (ix 1 k))
        ∗ (bigSep Finset.univ fun k => Φ (ix 2 k)) ∗ (bigSep Finset.univ fun k => Φ (ix 3 k))) := by
  have hu : (Finset.univ : Finset (Fin 34)) = insert 0 (insert 33 ((Finset.univ : Finset (Fin 4 × Fin 8)).map
      ⟨fun qk => ix qk.1 qk.2, fun a b h => Prod.ext (ix_inj h).1 (ix_inj h).2⟩)) := by decide
  have h0 : (0 : Fin 34) ∉ insert (33 : Fin 34) ((Finset.univ : Finset (Fin 4 × Fin 8)).map
      ⟨fun qk => ix qk.1 qk.2, fun a b h => Prod.ext (ix_inj h).1 (ix_inj h).2⟩) := by decide
  have h33 : (33 : Fin 34) ∉ ((Finset.univ : Finset (Fin 4 × Fin 8)).map
      ⟨fun qk => ix qk.1 qk.2, fun a b h => Prod.ext (ix_inj h).1 (ix_inj h).2⟩) := by decide
  rw [hu, bigSep_insert h0, bigSep_insert h33, bigSep_map, bigSep_univ_prod,
    bigSep_univ_eq_bigSepL [(0 : Fin 4), 1, 2, 3] (by decide) (by decide), bigSepL_cons_cons, bigSepL_cons_cons, bigSepL_cons_cons, bigSepL_singleton]
  rfl

theorem other_half (c : Dev nD) : (Finset.univ : Finset (Fin 2)).erase (hf c) = {hf (colP c)} := by revert c; decide

/-- A conjunction over the two halves, the device's own first. -/
theorem halves (c : Dev nD) (Φ : Fin 2 → sProp 𝕄) : bigSep Finset.univ Φ = iprop(Φ (hf c) ∗ Φ (hf (colP c))) := by
  rw [bigSep_univ_split (hf c), other_half, bigSep_singleton]; rfl

/-- The argument's buffer is its pieces, the device's own half first; -/
theorem x_pieces (c : Dev nD) (f : Blk F) : (((c : Thread nD τ).loc main_arg0) ↦{fullShare} f : sProp 𝕄)
    = iprop((bigSep Finset.univ fun k : Fin 8 => ((c : Thread nD τ).loc main_arg0) ↦[seg (hf c) k]{fullShare} f)
        ∗ bigSep Finset.univ fun k : Fin 8 => ((c : Thread nD τ).loc main_arg0) ↦[seg (hf (colP c)) k]{fullShare} f) := by
  rw [Ring.pointsTo_blocks (ℓ := (c : Thread nD τ).loc main_arg0) (fun b : Fin 2 × Fin 8 => seg b.1 b.2) seg_disjoint seg_cover f,
    bigSep_univ_prod, halves c]
/-- and so is the result's. -/
theorem o_pieces (c : Dev nD) (f : Blk F) : (((c : Thread nD τ).loc main_v1) ↦{fullShare} f : sProp 𝕄)
    = iprop((bigSep Finset.univ fun k : Fin 8 => outP c (hf c) k f) ∗ bigSep Finset.univ fun k : Fin 8 => outP c (hf (colP c)) k f) := by
  rw [Ring.pointsTo_blocks (ℓ := (c : Thread nD τ).loc main_v1) (fun b : Fin 2 × Fin 8 => seg b.1 b.2) seg_disjoint seg_cover f,
    bigSep_univ_prod, halves c]; rfl

/-- A persistent fact is at hand for every member of a conjunction. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The end -/

/-- What the body leaves, besides the staged permutation. -/
def done (c : Dev nD) : sProp 𝕄 :=
  iprop((((c : Thread nD τ).loc main_arg0) ↦{fullShare} xs c) ∗ (((c : Thread nD τ).loc main_v1) ↦{fullShare} outF xs c)
    ∗ bigSep Finset.univ fun i : Fin 34 => semVal (kcell (c, i)) 0)

theorem stage_end (k : Fin 8) : stage 48 k = 6 := by revert k; decide
theorem debt_end (c : Dev nD) : debt c 48 = 0 := by
  have e : ∀ t, 8 ≤ t → (Finset.univ : Finset (Fin 8)).filter (fun i => t ≤ i.val) = ∅ := fun t ht =>
    Finset.filter_eq_empty_iff.mpr fun i _ => by have := i.isLt; omega
  unfold debt owesX owesY started
  rw [e _ (by decide), e _ (by decide), Finset.sum_empty, Finset.sum_empty, add_zero]

section End
variable (K : Dev nD × Fin 34 → ℕ) (c : Dev nD)

/-- The four cells of a piece close. -/
theorem close_piece (k : Fin 8) : iprop(records xs K ∗ res xs c k (stage 48 k))
    ⊢ |={Set.univ}=> iprop(xP xs c (hf c) k ∗ outP c (hf c) k (outF xs c) ∗ outP c (hf (colP c)) k (outF xs c)
        ∗ semVal (cell 0 k c) 0 ∗ semVal (cell 1 k c) 0 ∗ semVal (cell 2 k c) 0 ∗ semVal (cell 3 k c) 0) := by
  rw [stage_end]
  show iprop(records xs K ∗ (xP xs c (hf c) k ∗ atPos ER (cell 0 k c) 1 ∅ 0) ∗ atPos ER (cell 1 k c) 1 ∅ 0
    ∗ (outP c (hf c) k (outF xs c) ∗ atPos ER (cell 2 k c) 1 ∅ 0) ∗ (outP c (hf (colP c)) k (outF xs c) ∗ atPos ER (cell 3 k c) 1 ∅ 0)) ⊢ _
  iintro ⟨#HI, ⟨Hx, H0⟩, H1, ⟨Ho, H2⟩, Ho', H3⟩
  ihave #S0 := (records_dma xs K c 0 k) $$ HI
  ihave #S1 := (records_dma xs K c 1 k) $$ HI
  ihave #S2 := (records_dma xs K c 2 k) $$ HI
  ihave #S3 := (records_dma xs K c 3 k) $$ HI
  icases S0 with ⟨#I0, -⟩
  icases S1 with ⟨#I1, -⟩
  icases S2 with ⟨#I2, -⟩
  icases S3 with ⟨#I3, -⟩
  imod (Rounds.cell_close ER (sched xs) (Set.mem_univ (K (c, ix 0 k))) (fun h => h) (R := 1) (duties_later xs (cell 0 k c))) $$ [H0] with Z0
  · isplitr; · iexact I0
    iexact H0
  imod (Rounds.cell_close ER (sched xs) (Set.mem_univ (K (c, ix 1 k))) (fun h => h) (R := 1) (duties_later xs (cell 1 k c))) $$ [H1] with Z1
  · isplitr; · iexact I1
    iexact H1
  imod (Rounds.cell_close ER (sched xs) (Set.mem_univ (K (c, ix 2 k))) (fun h => h) (R := 1) (duties_later xs (cell 2 k c))) $$ [H2] with Z2
  · isplitr; · iexact I2
    iexact H2
  imod (Rounds.cell_close ER (sched xs) (Set.mem_univ (K (c, ix 3 k))) (fun h => h) (R := 1) (duties_later xs (cell 3 k c))) $$ [H3] with Z3
  · isplitr; · iexact I3
    iexact H3
  imodintro
  isplitl [Hx]; · iexact Hx
  isplitl [Ho]; · iexact Ho
  isplitl [Ho']; · iexact Ho'
  isplitl [Z0]; · iexact Z0
  isplitl [Z1]; · iexact Z1
  isplitl [Z2] <;> iassumption

theorem close_pieces : iprop(records xs K ∗ bigSep Finset.univ fun k : Fin 8 => res xs c k (stage 48 k))
    ⊢ |={Set.univ}=> iprop((bigSep Finset.univ fun k : Fin 8 => xP xs c (hf c) k)
        ∗ (bigSep Finset.univ fun k : Fin 8 => outP c (hf c) k (outF xs c)) ∗ (bigSep Finset.univ fun k : Fin 8 => outP c (hf (colP c)) k (outF xs c))
        ∗ (bigSep Finset.univ fun k : Fin 8 => semVal (cell 0 k c) 0) ∗ (bigSep Finset.univ fun k : Fin 8 => semVal (cell 1 k c) 0)
        ∗ (bigSep Finset.univ fun k : Fin 8 => semVal (cell 2 k c) 0) ∗ (bigSep Finset.univ fun k : Fin 8 => semVal (cell 3 k c) 0)) := by
  refine ((with_persistent fun k _ => close_piece xs K c k).trans (bigSep_fupd _ _)).trans (BI.fupd_mono (Entails.of_eq ?_))
  rw [bigSep_sep', bigSep_sep', bigSep_sep', bigSep_sep', bigSep_sep', bigSep_sep']

/-- After its last step a device closes its cells and puts its buffers together. -/
theorem finish : iprop(records xs K ∗ (bigSep Finset.univ fun k : Fin 8 => res xs c k (stage 48 k)) ∗ atPos ER (barC c) 1 ∅ 0 ∗ atPos ER (kcell (c, 33)) 0 ∅ 0
      ∗ bigSep Finset.univ fun k : Fin 8 => xP xs c (hf (colP c)) k)
    ⊢ |={Set.univ}=> done xs c := by
  iintro ⟨#HI, HR, Hb, Hl, Hx'⟩
  imod (close_pieces xs K c) $$ [HR] with H
  · isplitr; · iexact HI
    iexact HR
  icases H with ⟨Hx, Ho, Ho', Z0, Z1, Z2, Z3⟩
  ihave #HS := (records_bar xs K c) $$ HI
  icases HS with ⟨#HIb, -⟩
  imod (Rounds.cell_close ER (sched xs) (Set.mem_univ (K (c, 0))) (fun h => h) (R := 1) (duties_later xs (barC c))) $$ [Hb] with Zb
  · isplitr; · iexact HIb
    iexact Hb
  ihave #HS := (records_at xs K (c, 33)) $$ HI
  icases HS with ⟨#HIl, -⟩
  imod (Rounds.cell_close ER (sched xs) (Set.mem_univ (K (c, 33))) (fun h => h) (R := 0) (duties_local xs c)) $$ [Hl] with Zl
  · isplitr; · iexact HIl
    iexact Hl
  imodintro
  unfold done
  isplitl [Hx Hx']
  · rw [x_pieces]
    isplitl [Hx]; · iexact Hx
    iexact Hx'
  isplitl [Ho Ho']
  · rw [o_pieces]
    isplitl [Ho]; · iexact Ho
    iexact Ho'
  · rw [cells_split]; simp only [kcell_zero, kcell_ix]
    isplitl [Zb]; · iexact Zb
    isplitl [Zl]; · iexact Zl
    isplitl [Z0]; · iexact Z0
    isplitl [Z1]; · iexact Z1
    isplitl [Z2] <;> iassumption

end End

/-! ## The body -/

variable (m : (ℓ : Loc nD τ sig) → Buf (Elt F) ℓ) (ρ : Dev nD → PrngReg)

/-- Device `c`'s permutation as staged into its scalar memory; -/
def piStg (c : Dev nD) : (cc0_stg0_0 : Ref sig .tc).ty.Contents (Elt F) :=
  (win0_0.blk (0 : Fin 1)).view.read (Elt F) (m ((c : Thread nD τ).loc main_arg1))

/-- the index of its row's entry; -/
def rowIx (c : Dev nD) : S2.Idx := fun a => ⟨c.val / 2, by have : c.val < 4 := c.isLt; fin_cases a; show c.val / 2 < 2; omega⟩

abbrev piR (c : Dev nD) : Rect S2 := Rect.unit (s := S2) (k0_off1 c) S1.size (k0_off1_inb c)
/-- the word the body reads there, which is that entry. -/
abbrev piWord (c : Dev nD) (p : (cc0_stg0_0 : Ref sig .tc).ty.Contents (Elt F)) : BitVec 32 :=
  ((Memref.whole cc0_stg0_0).access (piR c) : View sig .tc _ _ _).read (Elt F) p (Shape.Idx.first (s := S1) (numel1_S1.symm ▸ Nat.one_pos))

theorem piWord_eq (c : Dev nD) : piWord c (piStg m c) = (m ((c : Thread nD τ).loc main_arg1) : IVec S2 32) (rowIx c) := by
  show m ((c : Thread nD τ).loc main_arg1) _ = _
  refine congrArg _ (funext fun a => Fin.ext ?_)
  fin_cases a; fin_cases c <;> rfl

/-- On every device, the permutation's entry at its row names the other row. -/
def Swaps : Prop := ∀ c : Dev nD, (m ((c : Thread nD τ).loc main_arg1) : IVec S2 32) (rowIx c) = sw c

theorem sw_here (c : Dev nD) : ¬ Scalar.cmpi .ne (Scalar.extui (Scalar.cmpi .eq (sw c) (Scalar.remsi (Scalar.divsi (Dev.word c) 2#32) 2#32))) 0#32 = 1#1 := by
  revert c; decide

abbrev piPt (c : Dev nD) (f : (cc0_stg0_0 : Ref sig .tc).ty.Contents (Elt F)) : sProp 𝕄 := ((c : Thread nD τ).loc cc0_stg0_0) ↦{fullShare} f

set_option maxHeartbeats 2000000 in
/-- The body, from what a device starts with to what it leaves. -/
theorem body_run (K : Dev nD × Fin 34 → ℕ) (hm : Swaps m) (c : Dev nD) (W : Waits sig Unit) (Kt : PUnit → sProp 𝕄) :
    iprop(records xs K ∗ levAts L lv ∗ owes (c : Thread nD τ) (O₀ c) W ∗ start xs c ∗ atPos ER (kcell (c, 33)) 0 ∅ 0
        ∗ (bigSep Finset.univ fun k : Fin 8 => xP xs c (hf (colP c)) k) ∗ piPt c (piStg m c)
        ∗ ((done xs c ∗ (∃ W, owes (c : Thread nD τ) 0 W) ∗ piPt c (piStg m c)) -∗ Kt ⟨⟩))
      ⊢ wp frame (wpE (defs₀ (F := F)) 𝒱₀ (c : Thread nD τ) none) Set.univ
          (cc0_body (Memref.whole cc0_stg0_0) (Memref.isWhole_whole _) xA (Memref.isWhole_whole _) oA (Memref.isWhole_whole _)
            cc0_scratch0 cc0_scratch1 cc0_scratch2 cc0_scratch3 cc0_scratch4) Kt := by
  simp only [cc0_body_eq_skeleton]; unfold cc0_body_skel
  simp only [smemLoad, smemLoadElt, Prog.lift, Prog.bind_op, Prog.bind_ret, Prog.pure_eq_ret, wp_deviceId]
  iintro ⟨#HI, #Hlev, HO, Hstart, Hloc, Hx', Hpi, Hk⟩
  iapply (wp_load_rect 𝒱₀ (c : Thread nD τ) none Set.univ (m := (Memref.whole cc0_stg0_0 : Memref sig .tc .smem S2 .i32)) (r := piR c) (Finset.subset_univ _)) $$ Hpi
  iintro Hpi
  have hw : piWord c (piStg m c) = sw c := (piWord_eq m c).trans (hm c)
  have hchk : k0_chk1 c (piWord c (piStg m c)) := by rw [hw]; exact sw_chk c
  simp only [wp_assume_of _ _ _ _ (d := k0_chk1.dec _ _) hchk]
  simp only [hw, dif_pos (sw_cond c), if_neg (sw_here c), Prog.bind_assoc, wp_bind]
  iapply (part1 xs K c _ _ _ _ _ _ (sw c) rfl (sw_chk c) (sw_cond c) W)
  isplitr; · iexact HI
  isplitr; · iexact Hlev
  isplitl [HO]; · iexact HO
  isplitl [Hstart]; · iexact Hstart
  iintro %r ⟨HT, Hbar⟩
  iapply (part2 xs K c _ _ _ _ (sw c) rfl (sw_chk c) (sw_cond c))
  isplitr; · iexact HI
  isplitr; · iexact Hlev
  isplitl [HT]; · iexact HT
  iintro %r HT
  iapply (part3 xs K c _ _ _ _ (sw c) rfl (sw_chk c) (sw_cond c) _ _)
  isplitr; · iexact HI
  isplitr; · iexact Hlev
  isplitl [HT]; · iexact HT
  iintro %r HT
  iapply (part4 xs K c _ _ _ _ _ _ (sw c) rfl (sw_chk c) (sw_cond c))
  isplitr; · iexact HI
  isplitr; · iexact Hlev
  isplitl [HT]; · iexact HT
  iintro %r HT
  iapply (part5 xs K c _ _ _ _ _ _ (sw c))
  isplitr; · iexact HI
  isplitr; · iexact Hlev
  isplitl [HT]; · iexact HT
  iintro %r HT
  iapply (part6 xs K c _ _ _ _ _ _ (sw c))
  isplitr; · iexact HI
  isplitr; · iexact Hlev
  isplitl [HT]; · iexact HT
  iintro %r HT
  iapply (part7 xs K c _ _ _ _ _ _ (sw c))
  isplitr; · iexact HI
  isplitr; · iexact Hlev
  isplitl [HT]; · iexact HT
  iintro %r HT
  iapply (part8 xs K c _ _ _ _ _ _ (sw c) _)
  isplitr; · iexact HI
  isplitr; · iexact Hlev
  isplitl [HT]; · iexact HT
  iintro %r HT
  iapply (part9 xs K c _ _ _ _ _ _ (sw c))
  isplitr; · iexact HI
  isplitr; · iexact Hlev
  isplitl [HT]; · iexact HT
  iintro %r HT
  iapply (part10 xs K c _ _ _ _ _ _ (sw c))
  isplitr; · iexact HI
  isplitr; · iexact Hlev
  isplitl [HT]; · iexact HT
  iintro %r HT
  iapply (part11 xs K c _ _ _ _ _ _)
  isplitr; · iexact HI
  isplitr; · iexact Hlev
  isplitl [HT]; · iexact HT
  iintro %r HT
  iapply (part12 xs K c _ _ _ _ _ _)
  isplitr; · iexact HI
  isplitr; · iexact Hlev
  isplitl [HT]; · iexact HT
  iintro %r HT
  iapply (part13 xs K c _ _ _ _ _ _)
  isplitr; · iexact HI
  isplitr; · iexact Hlev
  isplitl [HT]; · iexact HT
  iintro %r HT
  iapply (part14 xs K c _ _ _ _ _ _)
  isplitr; · iexact HI
  isplitr; · iexact Hlev
  isplitl [HT]; · iexact HT
  iintro %r HT
  iapply (part15 xs K c _ _ _ _ _ _ _)
  isplitr; · iexact HI
  isplitr; · iexact Hlev
  isplitl [HT]; · iexact HT
  iintro %r HT
  iapply (step_colSent xs K c 7 47 48 rfl rfl _ rfl _ _ (credit_out _ _ _))
  isplitr; · iexact HI
  isplitr; · iexact Hlev
  isplitl [HT]; · iexact HT
  iintro HT
  unfold T
  icases HT with ⟨HR, ⟨%W', HO⟩⟩
  imod (finish xs K c) $$ [HR Hbar Hloc Hx'] with Hd
  · isplitr; · iexact HI
    isplitl [HR]; · iexact HR
    isplitl [Hbar]; · iexact Hbar
    isplitl [Hloc] <;> iassumption
  simp only [wp_ret, debt_end]
  imodintro
  iapply Hk
  isplitl [Hd]; · iexact Hd
  isplitl [HO]; · iexists W'; iexact HO
  iexact Hpi

end Cert.KernelIdeal.Swap

end

end
-- ==== Proof.KernelIdealLaunch.lean ====
/- The run in the swapping case: the pipeline's body obligation, what the launch deals each device, the cells' invariants
   put in place for all four devices at once, and the run's post: every device's result at `outF`, its arguments as they
   were, every semaphore at zero. -/
module

public import proofs.«01_k».proof.Proof.KernelIdealBody
public import proofs.«01_k».proof.Proof.Gen.KernelIdeal.Points
public import Idealize.ShloMosaic.Lib.Pipeline.CollectiveSegs
public import Idealize.ShloMosaic.Lib.Quiescent

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The devices' blocks of the input. -/
abbrev xsOf (c : Dev nD) : Blk F := m ((c : Thread nD τ).loc main_arg0)

/-! ## The proof data -/

/-- What device `c`'s body starts from: -/
def startAll (c : Dev nD) : sProp 𝕄 :=
  iprop((∃ K, records (xsOf m) K) ∗ levAts L lv ∗ start (xsOf m) c ∗ atPos ER (kcell (c, 33)) 0 ∅ 0
    ∗ bigSep Finset.univ fun k : Fin 8 => xP (xsOf m) c (hf (colP c)) k)

def dats (_ : Fin 1) (c : Dev nD) : Dat τ (Elt F) Unit ℕ UU ℕ cfg0 c where
  A w := m ((cfg0.win w).arr.view.loc (c : Thread nD τ))
  after w _ := match w with
    | ⟨0, _⟩ => piStg m c
  Φ t := match t with
    | ⟨0, _⟩ => startAll m c
    | ⟨_ + 1, _⟩ => done (xsOf m) c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev staged (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

def bodyPre (c : Dev nD) : sProp 𝕄 :=
  iprop(startAll m c ∗ (dats m 0 c).owesAt () t0_0.castSucc ∗ (∃ d, staged c ((dats m 0 c).before (0 : Fin 1) t0_0 d)))
def bodyPost (c : Dev nD) : sProp 𝕄 :=
  iprop(done (xsOf m) c ∗ (dats m 0 c).owesAt () t0_0.succ ∗ staged c (piStg m c))

theorem body_obligation (hm : Swaps m) (c : Dev nD) : BodyObligation (dats (F := F) m 0 c) (defs₀ (F := F)) 𝒱₀ () Set.univ := fun t => by
  rw [fin_N0 t]
  rw [bigSep_W0, bigSep_W0]
  simp only [owns_whole]
  show bodyPre m c ⊢ wp frame (wpE (defs₀ (F := F)) 𝒱₀ (c : Thread nD τ) none) Set.univ
    (cc0_body (Memref.whole cc0_stg0_0) (Memref.isWhole_whole _) xA (Memref.isWhole_whole _) oA (Memref.isWhole_whole _)
      cc0_scratch0 cc0_scratch1 cc0_scratch2 cc0_scratch3 cc0_scratch4) (fun _ => bodyPost m c)
  unfold bodyPre startAll
  iintro ⟨⟨⟨%K, #HI⟩, #Hlev, Hstart, Hloc, Hx'⟩, Ho, ⟨%d0, %g0, %hg0, Hpi⟩⟩
  have hg : g0 = piStg m c := by rw [hg0]; unfold Dat.before; rw [if_pos (fetch0_0 t0_0)]; rfl
  subst hg
  unfold Dat.owesAt Pipeline.owesWithin
  icases Ho with ⟨%W, %hW, HO⟩
  rw [show (dats m 0 c).owed t0_0.castSucc = O₀ c from rfl]
  iapply (body_run (xsOf m) m K hm c W fun _ => bodyPost m c)
  isplitr; · iexact HI
  isplitr; · iexact Hlev
  isplitl [HO]; · iexact HO
  isplitl [Hstart]; · iexact Hstart
  isplitl [Hloc]; · iexact Hloc
  isplitl [Hx']; · iexact Hx'
  isplitl [Hpi]; · iexact Hpi
  iintro ⟨Hd, ⟨%W', HO⟩, Hpi⟩
  unfold bodyPost Dat.owesAt Pipeline.owesWithin
  rw [show (dats m 0 c).owed t0_0.succ = 0 from rfl]
  isplitl [Hd]; · iexact Hd
  isplitl [HO]
  · iexists W'
    isplitr; · ipureintro; exact fun _ _ => Or.inl trivial
    iexact HO
  iexists _; isplitr; · (ipureintro; rfl)
  iexact Hpi

/-! ## The launch's ghost resources -/

abbrev osem : Fin 33 → SemLoc sig := fun j => .dma (j.succ : Fin 34)

theorem ownSemFacts : Pipeline.OwnSemFacts cfg0.spec osem := by decide
theorem share_eq (c : Dev nD) (w : Fin cfg0.W) : (dats m 0 c).share w = fullShare := by unfold Dat.share; split <;> rfl

theorem csem_inj {i j : Fin 34} (h : csem i = csem j) : i = j := by
  unfold csem at h
  by_cases hi : i = 0 <;> by_cases hj : j = 0
  · rw [hi, hj]
  · rw [if_pos hi, if_neg hj] at h; exact absurd h.symm (dma_ne_bar _)
  · rw [if_neg hi, if_pos hj] at h; exact absurd h (dma_ne_bar _)
  · rw [if_neg hi, if_neg hj] at h; exact SemLoc.dma.inj h

theorem kcell_injective : Function.Injective (kcell : Dev nD × Fin 34 → GSem nD τ sig) := by
  rintro ⟨c, k⟩ ⟨c', k'⟩ h
  have h1 : c = c' := congrArg (fun g : GSem nD τ sig => g.1.1) h
  have h2 : csem k = csem k' := congrArg Prod.snd h
  rw [h1, csem_inj h2]
def allCells : Finset (GSem nD τ sig) := Finset.univ.map ⟨kcell, kcell_injective⟩

/-- The duty tokens of a device's own cells as minted: the local copy's cell has no duty, and its number stands for the
    barrier's second. -/
abbrev tokOf (ci : Dev nD × Fin 34) : GSem nD τ sig × ℕ × Bool :=
  if ci.2 = 33 then (barC ci.1, 0, true) else (kcell ci, 0, false)
theorem tokOf_injective : Function.Injective (tokOf : Dev nD × Fin 34 → GSem nD τ sig × ℕ × Bool) := by
  rintro ⟨c, k⟩ ⟨c', k'⟩ h
  unfold tokOf at h
  by_cases hi : k = 33 <;> by_cases hj : k' = 33
  · subst hi hj
    rw [if_pos rfl, if_pos rfl] at h
    exact Prod.ext (congrArg (fun x : GSem nD τ sig × ℕ × Bool => x.1.1.1) h) rfl
  · rw [if_pos hi, if_neg hj] at h; exact Bool.noConfusion (congrArg (fun x : GSem nD τ sig × ℕ × Bool => x.2.2) h)
  · rw [if_neg hi, if_pos hj] at h; exact Bool.noConfusion (congrArg (fun x : GSem nD τ sig × ℕ × Bool => x.2.2) h)
  · rw [if_neg hi, if_neg hj] at h; exact kcell_injective (congrArg Prod.fst h)
def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-- The tokens of the duties on device `c`'s own cells; -/
def toks (c : Dev nD) : sProp 𝕄 :=
  iprop(dutyTok ER (barC c) 0 false ∗ dutyTok ER (barC c) 0 true ∗ (bigSep Finset.univ fun k : Fin 8 => dutyTok ER (cell 0 k c) 0 false)
    ∗ (bigSep Finset.univ fun k : Fin 8 => dutyTok ER (cell 1 k c) 0 false) ∗ (bigSep Finset.univ fun k : Fin 8 => dutyTok ER (cell 2 k c) 0 false)
    ∗ bigSep Finset.univ fun k : Fin 8 => dutyTok ER (cell 3 k c) 0 false)
/-- of the duties it pays itself. -/
def payToks (c : Dev nD) : sProp 𝕄 :=
  iprop(dutyTok ER (barC (rowP c)) 0 false ∗ dutyTok ER (barC (colP c)) 0 true ∗ (bigSep Finset.univ fun k : Fin 8 => dutyTok ER (cell 0 k c) 0 false)
    ∗ (bigSep Finset.univ fun k : Fin 8 => dutyTok ER (cell 1 k (rowP c)) 0 false) ∗ (bigSep Finset.univ fun k : Fin 8 => dutyTok ER (cell 2 k c) 0 false)
    ∗ bigSep Finset.univ fun k : Fin 8 => dutyTok ER (cell 3 k (colP c)) 0 false)

/-- The tokens go to the devices that pay. -/
theorem toks_around : (bigSep Finset.univ fun c : Dev nD => (toks c : sProp 𝕄)) ⊢ bigSep Finset.univ fun c : Dev nD => payToks c := by
  unfold toks payToks
  simp only [bigSep_sep']
  rw [bigSep_univ_equiv rowE (fun c : Dev nD => (dutyTok ER (barC c) 0 false : sProp 𝕄)),
    bigSep_univ_equiv colE (fun c : Dev nD => (dutyTok ER (barC c) 0 true : sProp 𝕄)),
    bigSep_univ_equiv rowE (fun c : Dev nD => (bigSep Finset.univ fun k : Fin 8 => dutyTok ER (cell 1 k c) 0 false : sProp 𝕄)),
    bigSep_univ_equiv colE (fun c : Dev nD => (bigSep Finset.univ fun k : Fin 8 => dutyTok ER (cell 3 k c) 0 false : sProp 𝕄))]
  exact BI.Entails.refl _

/-- A device's positions in its cells. -/
def places (c : Dev nD) : sProp 𝕄 := bigSep Finset.univ fun i : Fin 34 => atPos ER (kcell (c, i)) 0 ∅ 0

def G (c : Dev nD) : sProp 𝕄 :=
  iprop((bigSep Finset.univ fun i : Fin 34 => roundState ER (sched (xsOf m)) (kcell (c, i)) 0)
    ∗ (places c ∗ bigSep Finset.univ fun i : Fin 34 => reached ER (kcell (c, i)) 0) ∗ toks c)
def G' (c : Dev nD) : sProp 𝕄 := iprop(∃ K, records (xsOf m) K ∗ places c ∗ payToks c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : Fin 34 => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [cells_split]
    have e (q : Fin 4) (k : Fin 8) : tokOf (c, ix q k) = (cell q k c, 0, false) := by
      unfold tokOf; rw [if_neg, kcell_ix]
      intro h; have := congrArg Fin.val h; change 8 * q.val + k.val + 1 = 33 at this; omega
    have e0 : tokOf (c, 0) = (barC c, 0, false) := by unfold tokOf; rw [if_neg (by decide : ¬ (0 : Fin 34) = 33), kcell_zero]
    have e33 : tokOf (c, 33) = (barC c, 0, true) := if_pos rfl
    simp only [Function.Embedding.coeFn_mk, e, e0, e33]
  iintro HX
  imod (Rounds.fund ER (sched (xsOf m)) allCells allToks) $$ HX with ⟨Hst, Hr, Hat, Htok⟩
  imodintro
  ihave Hst' := (Entails.of_eq (hX fun g => roundState ER (sched (xsOf m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places; simp only [bigSep_sep']
  isplitl [Hst']; · iexact Hst'
  isplitl [Hat' Hr']
  · isplitl [Hat'] <;> iassumption
  iexact Htok'

/-! ## The semaphores -/

/-- The cells of a device at zero: the barrier, and the launch's own thirty-three. -/
theorem zeros (c : Dev nD) : (bigSep Finset.univ fun i : Fin 34 => (semVal (kcell (c, i)) 0 : sProp 𝕄))
    = iprop(unscopedSems0 c ∗ Pipeline.ownSems0 (Ix := Unit) (Name := ℕ) (U := UU) (Lvl := ℕ) (Val := Elt F) (τ := τ) osem c) := by
  have hu : (unscopedSems0 c : sProp 𝕄) = semVal (barC c) 0 := by
    unfold unscopedSems0; rw [bigSep_eq_bigSepL_of_eq [SemLoc.reg barS] (by decide) (by decide)]; rfl
  have ho : (Pipeline.ownSems0 (Ix := Unit) (Name := ℕ) (U := UU) (Lvl := ℕ) (Val := Elt F) (τ := τ) osem c : sProp 𝕄)
      = bigSep (Finset.univ.erase (0 : Fin 34)) fun i : Fin 34 => semVal (kcell (c, i)) 0 := by
    unfold Pipeline.ownSems0
    rw [show Finset.univ.erase (0 : Fin 34) = (Finset.univ : Finset (Fin 33)).map (Fin.succEmb 33) from by decide, bigSep_map]
    refine bigSep_congr fun j _ => ?_
    have : csem ((Fin.succEmb 33) j) = osem j := if_neg (Fin.succ_ne_zero j)
    show _ = semVal ((c : Thread nD τ), csem ((Fin.succEmb 33) j)) 0
    rw [this]
  rw [hu, ho, ← kcell_zero]
  exact bigSep_univ_split (0 : Fin 34)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 34 => iprop((∃ κ : ℕ, cellInv ER (sched (xsOf m)) κ (kcell (c, i))) ∗ reached ER (kcell (c, i)) 0))
          ∗ places c ∗ toks c) := by
  unfold G
  iintro ⟨Hos, Hus, Hst, ⟨Hat, Hr⟩, Htok⟩
  ihave Hv := (Entails.of_eq (zeros (F := F) c).symm) $$ [Hos Hus]
  · isplitl [Hus] <;> iassumption
  imod (show iprop((bigSep Finset.univ fun i : Fin 34 => semVal (kcell (c, i)) 0) ∗ bigSep Finset.univ fun i : Fin 34 => roundState ER (sched (xsOf m)) (kcell (c, i)) 0)
      ⊢ (|={Set.univ}=> bigSep Finset.univ fun i => iprop(∃ κ : ℕ, cellInv ER (sched (xsOf m)) κ (kcell (c, i))) : sProp 𝕄) from by
        rw [← bigSep_sep']
        exact (bigSep_mono fun i _ => (Rounds.body_intro ER (sched (xsOf m)) (kcell (c, i))).trans inv_alloc).trans (bigSep_fupd _ _)) $$ [Hv Hst] with Hinv
  · isplitl [Hv] <;> iassumption
  imodintro
  isplitl [Hinv Hr]
  · rw [bigSep_sep']
    isplitl [Hinv] <;> iassumption
  isplitl [Hat] <;> iassumption

theorem regroup :
    (bigSep Finset.univ fun c : Dev nD => iprop((bigSep Finset.univ fun i : Fin 34 => iprop((∃ κ : ℕ, cellInv ER (sched (xsOf m)) κ (kcell (c, i))) ∗ reached ER (kcell (c, i)) 0))
          ∗ places c ∗ toks c) : sProp 𝕄)
      ⊢ bigSep Finset.univ (G' m) := by
  rw [bigSep_sep', bigSep_sep',
    ← bigSep_univ_prod (fun ci : Dev nD × Fin 34 => iprop((∃ κ : ℕ, cellInv ER (sched (xsOf m)) κ (kcell ci)) ∗ reached ER (kcell ci) 0)), bigSep_sep']
  iintro ⟨⟨HI, Hr⟩, Hat, Htok⟩
  ihave HK := (BI.bigSep_exists_pi Finset.univ (fun (ci : Dev nD × Fin 34) (κ : ℕ) => (cellInv ER (sched (xsOf m)) κ (kcell ci) : sProp 𝕄))) $$ HI
  icases HK with ⟨%K, HI⟩
  ihave HR := (show iprop((bigSep Finset.univ fun ci : Dev nD × Fin 34 => cellInv ER (sched (xsOf m)) (K ci) (kcell ci))
      ∗ bigSep Finset.univ fun ci : Dev nD × Fin 34 => reached ER (kcell ci) 0) ⊢ records (xsOf m) K from by unfold records; rw [bigSep_sep']) $$ [HI Hr]
  · isplitl [HI] <;> iassumption
  ihave Htk := (toks_around (F := F)) $$ Htok
  iapply (with_persistent (R := records (xsOf m) K) (Φ := fun c => iprop(places c ∗ payToks c)) (Ψ := G' m) fun c _ => by
    unfold G'
    iintro ⟨HI, H⟩
    iexists K
    isplitl [HI] <;> iassumption)
  isplitl [HR]; · iexact HR
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem filter_zero : (Finset.univ : Finset (Fin 8)).filter (fun i => 0 ≤ i.val) = Finset.univ := by decide

/-- Each device finds its barrier's two units and its "received" cells' credit. -/
theorem creds (c : Dev nD) : (Pipeline.launchCred O₀ c : sProp 𝕄)
    ⊢ iprop(cred (tallyAt (barC c) () 2) ∗ (bigSep Finset.univ fun k : Fin 8 => cred (tallyAt (cell 1 k c) () N))
        ∗ bigSep Finset.univ fun k : Fin 8 => cred (tallyAt (cell 3 k c) () N)) := by
  have hO : (O₀ : Dev nD → CellTallies nD τ sig Unit) = fun d => ((∑ k : Fin 8, tallyAt (cell 3 k (colP d)) () N + ∑ k : Fin 8, tallyAt (cell 1 k (rowP d)) () N)
      + tallyAt (barC (colP d)) () 1) + tallyAt (barC (rowP d)) () 1 := by
    funext d; unfold O₀ O₁ debt owesY owesX
    rw [show started 0 = 0 from rfl, filter_zero]
  rw [hO, Pipeline.launchCred_add, Pipeline.launchCred_add, Pipeline.launchCred_add, Pipeline.launchCred_sum, Pipeline.launchCred_sum]
  iintro ⟨⟨⟨H3, H1⟩, Hc⟩, Hr⟩
  isplitl [Hc Hr]
  · rw [show (tallyAt (barC c) () 2 : CellTallies nD τ sig Unit) = tallyAt (barC c) () 1 + tallyAt (barC c) () 1 from (tallyAt_add _ _ 1 1).symm]
    iapply (cred_add _ _).2
    isplitl [Hc]
    · iapply (Pipeline.launchCred_tallyAt (.reg barS) colP colP colP_colP colP_colP () 1 c); iexact Hc
    · iapply (Pipeline.launchCred_tallyAt (.reg barS) rowP rowP rowP_rowP rowP_rowP () 1 c); iexact Hr
  isplitl [H1]
  · iapply (show (bigSep Finset.univ fun k : Fin 8 => Pipeline.launchCred (fun d => tallyAt (cell 1 k (rowP d)) () N) c : sProp 𝕄) ⊢ bigSep Finset.univ fun k : Fin 8 => cred (tallyAt (cell 1 k c) () N) from
      bigSep_mono fun k _ => Pipeline.launchCred_tallyAt (.dma (dS 1 k)) rowP rowP rowP_rowP rowP_rowP () N c)
    iexact H1
  · iapply (show (bigSep Finset.univ fun k : Fin 8 => Pipeline.launchCred (fun d => tallyAt (cell 3 k (colP d)) () N) c : sProp 𝕄) ⊢ bigSep Finset.univ fun k : Fin 8 => cred (tallyAt (cell 3 k c) () N) from
      bigSep_mono fun k _ => Pipeline.launchCred_tallyAt (.dma (dS 3 k)) colP colP colP_colP colP_colP () N c)
    iexact H3

/-! ## Into and out of the region -/

theorem init_pieces (c : Dev nD) : (bigSep Finset.univ fun k : Fin 8 => init (xsOf m) c k)
    = iprop(((bigSep Finset.univ fun k : Fin 8 => xP (xsOf m) c (hf c) k) ∗ (bigSep Finset.univ fun k : Fin 8 => dutyTok ER (cell 0 k c) 0 false)
        ∗ (bigSep Finset.univ fun k : Fin 8 => dutyTok ER (cell 1 k (rowP c)) 0 false) ∗ (bigSep Finset.univ fun k : Fin 8 => atPos ER (cell 0 k c) 0 ∅ 0))
      ∗ ((bigSep Finset.univ fun k : Fin 8 => cred (tallyAt (cell 1 k c) () N)) ∗ (bigSep Finset.univ fun k : Fin 8 => atPos ER (cell 1 k c) 0 ∅ 0))
      ∗ ((bigSep Finset.univ fun k : Fin 8 => dutyTok ER (cell 2 k c) 0 false) ∗ (bigSep Finset.univ fun k : Fin 8 => dutyTok ER (cell 3 k (colP c)) 0 false)
        ∗ (bigSep Finset.univ fun k : Fin 8 => atPos ER (cell 2 k c) 0 ∅ 0))
      ∗ ((bigSep Finset.univ fun k : Fin 8 => cred (tallyAt (cell 3 k c) () N)) ∗ (bigSep Finset.univ fun k : Fin 8 => atPos ER (cell 3 k c) 0 ∅ 0))) := by
  unfold init; simp only [bigSep_sep']

theorem any_pieces (c : Dev nD) (h : Fin 2) (f : Blk F) :
    (bigSep Finset.univ fun k : Fin 8 => outP (F := F) c h k f) ⊢ bigSep Finset.univ fun k : Fin 8 => outAny (F := F) c h k :=
  bigSep_mono fun k _ => show outP (F := F) c h k f ⊢ outAny (F := F) c h k from by
    unfold outAny
    exact exists_intro f

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(startAll m c ∗ emp) := by
  have hrest : (Pipeline.unscopedRestP Pipeline.Prefetch.none cfg0.spec c (fun b => m ((c : Thread nD τ).loc b)) : sProp 𝕄)
      = iprop((((c : Thread nD τ).loc main_arg0) ↦{fullShare} xsOf m c) ∗ (((c : Thread nD τ).loc main_v1) ↦{fullShare} m ((c : Thread nD τ).loc main_v1))) :=
    (Pipeline.unscopedRestP_none _ _ _).trans (unscopedRest0_eq c _)
  rw [hrest, x_pieces c, o_pieces c]
  unfold G' places payToks
  rw [cells_split]; simp only [kcell_zero, kcell_ix]
  iintro ⟨⟨⟨Hx, Hx'⟩, Ho, Ho'⟩, Hlev, Hcr, -, ⟨%K, #HI, ⟨Ab, Al, A0, A1, A2, A3⟩, Tr, Tc, T0, T1, T2, T3⟩⟩
  ihave Hc := (creds (F := F) c) $$ Hcr
  icases Hc with ⟨Cb, C1, C3⟩
  ihave Ho := (any_pieces c _ _) $$ Ho
  ihave Ho' := (any_pieces c _ _) $$ Ho'
  imodintro
  isplitl
  · unfold startAll start
    rw [init_pieces]
    isplitr; · iexists K; iexact HI
    isplitl [Hlev]; · iexact Hlev
    isplitr [Al Hx']
    · isplitl [Hx A0 A1 A2 A3 T0 T1 T2 T3 C1 C3]
      · isplitl [Hx A0 T0 T1]
        · isplitl [Hx]; · iexact Hx
          isplitl [T0]; · iexact T0
          isplitl [T1] <;> iassumption
        isplitl [C1 A1]
        · isplitl [C1] <;> iassumption
        isplitl [T2 T3 A2]
        · isplitl [T2]; · iexact T2
          isplitl [T3] <;> iassumption
        isplitl [C3] <;> iassumption
      isplitl [Ho]; · iexact Ho
      isplitl [Ho']; · iexact Ho'
      isplitl [Tr]; · iexact Tr
      isplitl [Tc]; · iexact Tc
      isplitl [Cb] <;> iassumption
    isplitl [Al]; · iexact Al
    iexact Hx'
  · iempintro

theorem phi0_intro (c : Dev nD) :
    iprop(startAll m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = startAll m c from rfl]
  iintro ⟨Hs, -, -⟩
  iexact Hs

/-- What a device leaves for the reading of the final memory. -/
def left (c : Dev nD) : sProp 𝕄 :=
  iprop((((c : Thread nD τ).loc main_arg0) ↦{fullShare} xsOf m c) ∗ (((c : Thread nD τ).loc main_v1) ↦{fullShare} outF (xsOf m) c) ∗ unscopedSems0 c)

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = done (xsOf m) c from rfl, scopedRest0_eq]
  unfold done left
  rw [zeros]
  iintro ⟨Hx, Ho, Hu, Hs⟩
  isplitl [Hx Ho Hu]
  · isplitl [Hx]; · iexact Hx
    isplitl [Ho]; · iexact Ho
    iexact Hu
  isplitl [Hs]; · iexact Hs
  iempintro

theorem waits (c : Dev nD) : (levAts L lv : sProp 𝕄) ⊢ Pipeline.cellsWaits cfgs (dats m) () 0 c :=
  Pipeline.cellsWaits_intro cfgs (dats m) () 0 c fun w s t => by
    have hw : w = (0 : Fin 1) := Subsingleton.elim _ _
    subst hw
    have hs : s = (0 : Fin 1) := Subsingleton.elim _ _
    subst hs
    rcases t with ⟨_ | _, ht⟩
    · exact mayWait_of c (.dma (0 : Fin 34)) (O₀ c) O₀_above
    · exact mayWait_of c (.dma (0 : Fin 34)) 0 fun g u h => absurd h (Nat.lt_irrefl 0)

/-! ## The run -/

set_option maxRecDepth 8000 in
/-- On four devices, from any memory with zero semaphores whose permutation swaps the rows: every weakly fair execution
    of the program ends, with every device's result at `outF`, its arguments unchanged and all semaphores at zero. -/
theorem run (hm : Swaps m) : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = outF (xsOf m) c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m hm) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := startAll m) (Y := left m) (Z := fun _ => iprop(emp))
    (hX := start_intro m ρ) (hin := phi0_intro m) (hout := phi1_exit m)
    (QY := fun c s => s.mem ((c : Thread nD τ).loc main_arg0) = xsOf m c ∧ s.mem ((c : Thread nD τ).loc main_v1) = outF (xsOf m) c
      ∧ ∀ sm : SemLoc sig, sm.isScoped .tc = false → s.sem ((c.tc : Thread nD τ), sm) = 0)
    (hY := fun c s' => by
      unfold left
      iintro ⟨⟨Hx, Ho, Hu⟩, -, HSI⟩
      ihave %hx := (SI_pointsTo_agree (st := s') (ℓ := (c : Thread nD τ).loc main_arg0) (I := Finset.univ) (q := fullShare) (f := xsOf m c)) $$ [HSI Hx]
      · isplitl [HSI] <;> iassumption
      ihave %ho := (SI_pointsTo_agree (st := s') (ℓ := (c : Thread nD τ).loc main_v1) (I := Finset.univ) (q := fullShare) (f := outF (xsOf m) c)) $$ [HSI Ho]
      · isplitl [HSI] <;> iassumption
      imod (Pipeline.unscopedSems0_read (X := unscopedSems0 c) (c := c) fupd_intro s') $$ [Hu HSI] with H
      · isplitl [Hu] <;> iassumption
      icases H with ⟨%hu, HSI⟩
      imodintro
      isplitr
      · ipureintro; exact ⟨funext fun i => hx i (Finset.mem_univ i), funext fun i => ho i (Finset.mem_univ i), hu⟩
      · iexact HSI)
    (hQ := fun _ h hs => ⟨fun c => ⟨(h c).2.2.1, ((h c).1 (0 : Fin 1)).trans ((dats m 0 c).arrAt_in (0 : Fin 1) rfl _), (h c).2.2.2.1⟩,
      sem_eq_zero hs fun c => (h c).2.2.2.2⟩)

end Cert.KernelIdeal.Swap

end

end
-- ==== Proof.KernelIdealStay.lean ====
/- The case of the identity permutation: no device speaks to another; each copies its whole block to its result by one
   local transfer and waits for it. The body, the launch and the run's post. -/
module

public import proofs.«01_k».proof.Proof.KernelIdealLaunch
public import Idealize.ShloMosaic.Lib.Transfers
public import Idealize.ShloMosaic.Lib.Pipeline.KitQuiescent

@[expose] public section

noncomputable section

namespace Cert.KernelIdeal.Stay

open Cert.KernelIdeal Cert.KernelIdeal.Gen Cert.KernelIdeal.Swap
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's cells and the local transfer's counters. -/
abbrev UI : Type := UR sig nD τ × Counters

local notation "𝕄" => MT nD τ sig Unit (Elt F) ℕ UI ℕ

abbrev EI : Emb (UR sig nD τ) (MT nD τ sig Unit (Elt F) ℕ UI ℕ) := embL
abbrev EC : UEmb Counters (MT nD τ sig Unit (Elt F) ℕ UI ℕ) := countersEmb

variable (m : (ℓ : Loc nD τ sig) → Buf (Elt F) ℓ) (ρ : Dev nD → PrngReg)

/-- On every device, the permutation's entry at its row names that row. -/
def Stays : Prop := ∀ c : Dev nD, (m ((c : Thread nD τ).loc main_arg1) : IVec S2 32) (rowIx c) = BitVec.ofNat 32 (c.val / 2)

theorem stay_cond (c : Dev nD) : ¬ k0_cond1 c (BitVec.ofNat 32 (c.val / 2)) = 1#1 := by revert c; decide
theorem stay_chk (c : Dev nD) : k0_chk1 c (BitVec.ofNat 32 (c.val / 2)) := by
  refine ⟨?_, ?_, ?_, ?_, ?_, ?_, ?_, ?_, ?_⟩ <;> exact fun h => absurd h (stay_cond c)
theorem stay_here (c : Dev nD) : Scalar.cmpi .ne (Scalar.extui (Scalar.cmpi .eq (BitVec.ofNat 32 (c.val / 2)) (Scalar.remsi (Scalar.divsi (Dev.word c) 2#32) 2#32))) 0#32 = 1#1 := by
  revert c; decide

/-- The local transfer's semaphore. -/
abbrev locSem : DmaSem sig := (33 : Fin 34)

abbrev xPt (c : Dev nD) (f : Blk F) : sProp 𝕄 := ((c : Thread nD τ).loc main_arg0) ↦{fullShare} f
abbrev oPt (c : Dev nD) (f : Blk F) : sProp 𝕄 := ((c : Thread nD τ).loc main_v1) ↦{fullShare} f
abbrev piAt (c : Dev nD) (f : (cc0_stg0_0 : Ref sig .tc).ty.Contents (Elt F)) : sProp 𝕄 := ((c : Thread nD τ).loc cc0_stg0_0) ↦{fullShare} f
/-- The counters of the launch's own semaphores but the local transfer's. -/
def others (c : Dev nD) : sProp 𝕄 := bigSep ((Finset.univ : Finset (Fin 33)).erase 32) fun j => semVal ((c : Thread nD τ), osem j) 0

/-- Before the body: the block, the result at what it held, the counters; after: the result at the block. -/
def before (c : Dev nD) : sProp 𝕄 :=
  iprop(xPt c (xsOf m c) ∗ oPt c (m ((c : Thread nD τ).loc main_v1)) ∗ semVal ((c : Thread nD τ), .dma locSem) 0 ∗ others c)
def after (c : Dev nD) : sProp 𝕄 :=
  iprop(xPt c (xsOf m c) ∗ oPt c (xsOf m c) ∗ semVal ((c : Thread nD τ), .dma locSem) 0 ∗ others c)

theorem amount_whole : (oA : Memref sig .tc .hbm S1x4096x2048 .f32).view.amount (.dma locSem) = 1048576 := by
  rfl

/-- A whole block written over another by way of the whole views is that block. -/
theorem copied (f g : Blk F) : (oA : Memref sig .tc .hbm S1x4096x2048 .f32).view.write (Elt F) f
    ((xA : Memref sig .tc .hbm S1x4096x2048 .f32).view.read (Elt F) g) Finset.univ = g :=
  View.read_write_univ (Val := Elt F) (v := (oA : Memref sig .tc .hbm S1x4096x2048 .f32).view) f g

theorem body_run (hm : Stays m) (c : Dev nD) (W : Waits sig Unit) (Kt : PUnit → sProp 𝕄) :
    iprop(owes (c : Thread nD τ) 0 W ∗ before m c ∗ piAt c (piStg m c)
        ∗ ((after m c ∗ (∃ W, owes (c : Thread nD τ) 0 W) ∗ piAt c (piStg m c)) -∗ Kt ⟨⟩))
      ⊢ wp frame (wpE (defs₀ (F := F)) 𝒱₀ (c : Thread nD τ) none) Set.univ
          (cc0_body (Memref.whole cc0_stg0_0) (Memref.isWhole_whole _) xA (Memref.isWhole_whole _) oA (Memref.isWhole_whole _)
            cc0_scratch0 cc0_scratch1 cc0_scratch2 cc0_scratch3 cc0_scratch4) Kt := by
  simp only [cc0_body_eq_skeleton]; unfold cc0_body_skel
  simp only [smemLoad, smemLoadElt, Prog.lift, Prog.bind_op, Prog.bind_ret, Prog.pure_eq_ret, wp_deviceId]
  unfold before
  iintro ⟨HO, ⟨Hx, Ho, Hs, Hr⟩, Hpi, Hk⟩
  iapply (wp_load_rect 𝒱₀ (c : Thread nD τ) none Set.univ (m := (Memref.whole cc0_stg0_0 : Memref sig .tc .smem S2 .i32)) (r := piR c) (Finset.subset_univ _)) $$ Hpi
  iintro Hpi
  have hw : piWord c (piStg m c) = BitVec.ofNat 32 (c.val / 2) := (piWord_eq m c).trans (hm c)
  have hchk : k0_chk1 c (piWord c (piStg m c)) := by rw [hw]; exact stay_chk c
  simp only [wp_assume_of _ _ _ _ (d := k0_chk1.dec _ _) hchk]
  simp only [hw, dif_neg (stay_cond c), if_pos (stay_here c), Prog.bind_op, Prog.bind_ret, Prog.pure_eq_ret]
  iapply (Transfers.wp_dmaLocal EC 𝒱₀ (c : Thread nD τ) none (src := xA) (dst := oA) (sm := .dma locSem) (Sd := Finset.univ)
    (fs := xsOf m c) (fd := m ((c : Thread nD τ).loc main_v1)) (q := fullShare) () 1048576 amount_whole (by decide) (Finset.subset_univ _)) $$ [Hx Ho Hs]
  · rw [show (xA : Memref sig .tc .hbm S1x4096x2048 .f32).view.set = Finset.univ from View.set_whole _]
    isplitl [Hx]; · iexact Hx
    isplitl [Ho]; · iexact Ho
    iexact Hs
  iintro Hf
  iapply (Transfers.wp_waitLocal EC 𝒱₀ (c : Thread nD τ) none () (N := 1048576) amount_whole) $$ [Hf HO]
  · isplitl [Hf]; · iexact Hf
    iexact HO
  iintro ⟨⟨Ho, Hx⟩, Hs, HO⟩
  rw [wp_ret]
  imodintro
  iapply Hk
  unfold after
  rw [show (xA : Memref sig .tc .hbm S1x4096x2048 .f32).view.set = Finset.univ from View.set_whole _]
  isplitl [Ho Hx Hs Hr]
  · isplitl [Hx]; · iexact Hx
    isplitl [Ho]
    · ihave H := (Entails.of_eq (congrArg (fun f : Blk F => (((c : Thread nD τ).loc main_v1) ↦{fullShare} f : sProp 𝕄))
        (copied (m ((c : Thread nD τ).loc main_v1)) (xsOf m c)))) $$ Ho
      iexact H
    isplitl [Hs]; · iexact Hs
    iexact Hr
  isplitl [HO]
  · iexists _; iexact HO
  iexact Hpi

/-! ## The proof data and the body's obligation -/

def dats (_ : Fin 1) (c : Dev nD) : Dat τ (Elt F) Unit ℕ UI ℕ cfg0 c where
  A w := m ((cfg0.win w).arr.view.loc (c : Thread nD τ))
  after w _ := match w with
    | ⟨0, _⟩ => piStg m c
  Φ t := match t with
    | ⟨0, _⟩ => before m c
    | ⟨_ + 1, _⟩ => after m c
  q _ := fullShare
  owed _ := 0

theorem owns_whole (c : Dev nD) (b : Ref sig .tc) (X : b.ty.Contents (Elt F)) :
    (owns (Ix := Unit) (Name := ℕ) (U := UI) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev staged (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

def bodyPre (c : Dev nD) : sProp 𝕄 :=
  iprop(before m c ∗ (dats m 0 c).owesAt () t0_0.castSucc ∗ (∃ d, staged c ((dats m 0 c).before (0 : Fin 1) t0_0 d)))
def bodyPost (c : Dev nD) : sProp 𝕄 :=
  iprop(after m c ∗ (dats m 0 c).owesAt () t0_0.succ ∗ staged c (piStg m c))

theorem body_obligation (hm : Stays m) (c : Dev nD) : BodyObligation (dats (F := F) m 0 c) (defs₀ (F := F)) 𝒱₀ () Set.univ := fun t => by
  rw [fin_N0 t]
  rw [bigSep_W0, bigSep_W0]
  simp only [owns_whole]
  show bodyPre m c ⊢ wp frame (wpE (defs₀ (F := F)) 𝒱₀ (c : Thread nD τ) none) Set.univ
    (cc0_body (Memref.whole cc0_stg0_0) (Memref.isWhole_whole _) xA (Memref.isWhole_whole _) oA (Memref.isWhole_whole _)
      cc0_scratch0 cc0_scratch1 cc0_scratch2 cc0_scratch3 cc0_scratch4) (fun _ => bodyPost m c)
  unfold bodyPre
  iintro ⟨Hb, Ho, ⟨%d0, %g0, %hg0, Hpi⟩⟩
  have hg : g0 = piStg m c := by rw [hg0]; unfold Dat.before; rw [if_pos (fetch0_0 t0_0)]; rfl
  subst hg
  unfold Dat.owesAt Pipeline.owesWithin
  icases Ho with ⟨%W, %hW, HO⟩
  rw [show (dats m 0 c).owed t0_0.castSucc = 0 from rfl]
  iapply (body_run m hm c W fun _ => bodyPost m c)
  isplitl [HO]; · iexact HO
  isplitl [Hb]; · iexact Hb
  isplitl [Hpi]; · iexact Hpi
  iintro ⟨Hd, ⟨%W', HO⟩, Hpi⟩
  unfold bodyPost Dat.owesAt Pipeline.owesWithin
  rw [show (dats m 0 c).owed t0_0.succ = 0 from rfl]
  isplitl [Hd]; · iexact Hd
  isplitl [HO]
  · iexists W'
    isplitr; · ipureintro; exact fun _ _ => Or.inl trivial
    iexact HO
  iexists _; isplitr; · (ipureintro; rfl)
  iexact Hpi

/-! ## The run -/

def u₀ : UI := (initOf (Pipeline.cells cfgs cellOf_inj) (Pipeline.launchToks cfgs cellOf_inj), (1 : Counters))

/-- The launch's own counters at zero: the local transfer's and the others'. -/
theorem own_zeros (c : Dev nD) : (Pipeline.ownSems0 (Ix := Unit) (Name := ℕ) (U := UI) (Lvl := ℕ) (Val := Elt F) (τ := τ) osem c : sProp 𝕄)
    = iprop(semVal ((c : Thread nD τ), .dma locSem) 0 ∗ others c) := by
  unfold Pipeline.ownSems0 others
  exact bigSep_univ_split (32 : Fin 33)

/-- What a device leaves for the reading of the final memory. -/
def left (c : Dev nD) : sProp 𝕄 := iprop(xPt c (xsOf m c) ∗ oPt c (xsOf m c))

set_option maxRecDepth 8000 in
/-- On four devices, from any memory with zero semaphores whose permutation is the identity: every weakly fair execution
    of the program ends, with every device's result at its own block, its arguments unchanged and all semaphores at
    zero. -/
theorem run (hm : Stays m) : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = m ((c : Thread nD τ).loc main_arg0)) ∧ r.2.sem = fun _ => 0) :=
  Pipeline.θ_run_region_kit_quiescent cfgs (dats m) () (0 : Fin 1) launch0 ownSemFacts EI defs₀ 𝒱₀ m ρ main
    (hbody := fun c => (body_obligation m hm c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (Entails.of_eq (bigSep_emp_const (Finset.univ : Finset (Dev nD))).symm); iempintro)
    (V := fun c b => m ((c : Thread nD τ).loc b))
    (hmain := fun c Q => by
      simp only [main, Prog.lift, Prog.bind_op, Prog.bind_ret, Prog.pure_eq_ret]
      iintro ⟨Hk, Hb⟩; iapply Hk; iexact Hb)
    (hA := fun _ _ => rfl)
    (X := before m) (Y := fun c => iprop(left m c)) (Z := fun _ => iprop(emp))
    (hX := fun c => by
      rw [show (Pipeline.unscopedRest cfg0.spec c (fun b => m ((c : Thread nD τ).loc b)) : sProp 𝕄) = _ from unscopedRest0_eq c _, own_zeros]
      iintro ⟨⟨Hx, Ho⟩, ⟨Hs, Hr⟩, -, -, -⟩
      imodintro
      isplitl
      · unfold before
        isplitl [Hx]; · iexact Hx
        isplitl [Ho]; · iexact Ho
        isplitl [Hs] <;> iassumption
      · iempintro)
    (hin := fun c => by
      rw [show (dats m 0 c).Φ 0 = before m c from rfl]
      iintro ⟨H, -⟩
      iexact H)
    (hout := fun c => by
      rw [show (dats m 0 c).Φ (Fin.last cfg0.N) = after m c from rfl,
        show (Pipeline.scopedRest cfg0.spec c : sProp 𝕄) = _ from scopedRest0_eq c, own_zeros]
      unfold after left
      iintro ⟨Hx, Ho, Hs, Hr⟩
      isplitl [Hx Ho]
      · isplitl [Hx] <;> iassumption
      isplitl [Hs Hr]
      · isplitl [Hs] <;> iassumption
      iempintro)
    (QY := fun c s => s.mem ((c : Thread nD τ).loc main_arg0) = xsOf m c ∧ s.mem ((c : Thread nD τ).loc main_v1) = xsOf m c)
    (hY := fun c s' => by
      unfold left
      iintro ⟨⟨Hx, Ho⟩, -, HSI⟩
      ihave %hx := (SI_pointsTo_agree (st := s') (ℓ := (c : Thread nD τ).loc main_arg0) (I := Finset.univ) (q := fullShare) (f := xsOf m c)) $$ [HSI Hx]
      · isplitl [HSI] <;> iassumption
      ihave %ho := (SI_pointsTo_agree (st := s') (ℓ := (c : Thread nD τ).loc main_v1) (I := Finset.univ) (q := fullShare) (f := xsOf m c)) $$ [HSI Ho]
      · isplitl [HSI] <;> iassumption
      imodintro
      isplitr
      · ipureintro; exact ⟨funext fun i => hx i (Finset.mem_univ i), funext fun i => ho i (Finset.mem_univ i)⟩
      · iexact HSI)
    (hQ := fun _ h hs => ⟨fun c => ⟨(h c).2.1, ((h c).1 (0 : Fin 1)).trans ((dats m 0 c).arrAt_in (0 : Fin 1) rfl _), (h c).2.2⟩, hs⟩)

end Cert.KernelIdeal.Stay

end

end
-- ==== Proof.ReferenceRows.lean ====
/- The reference, read row by row: the index vector [1, 0] makes it exchange the two rows of the array, the index
   vector [0, 1] makes it return the array. The reference takes the row numbers by a stable sort of the index vector
   that carries the positions along, and reads the array at those rows. Its program declares no semaphore, so every
   counter reads zero at its end. -/
module

public import proofs.«01_k».proof.Proof.Gen.ReferenceIdeal.Run
public import Idealize.ShloMosaic.Lib.Quiescent

@[expose] public section

noncomputable section

namespace Cert.ReferenceIdeal.Rows

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- The row numbers the reference reads the array at, as its program computes them from the index vector `p`: the
    positions in the order a stable sort of `p` puts them, a negative one moved up by two. -/
def starts (p : IVec S2 32) : IVec S2x1 32 :=
  broadcastInDim S2x1 ![0] bcast_S2_S2x1_0
    (select (cmpi .slt ((Host.sort2 S2 0 comparator_i32_i32_d0 p (iotaInDim S2 32 0)).2) (broadcastInDim S2 ![] bcast_S_S2 (constantI S_ 32 0#32)))
      (addi ((Host.sort2 S2 0 comparator_i32_i32_d0 p (iotaInDim S2 32 0)).2) (broadcastInDim S2 ![] bcast_S_S2 (constantI S_ 32 2#32)))
      ((Host.sort2 S2 0 comparator_i32_i32_d0 p (iotaInDim S2 32 0)).2))

/-- The index vector holding `a` then `b`. -/
def pair (a b : BitVec 32) : IVec S2 32 := fun i => (![a, b] : Fin 2 → BitVec 32) (i 0)

/-- The index of entry `k`. -/
def entry (k : Fin 2) : S2.Idx := fun a => ⟨k.val, by fin_cases a; exact k.isLt⟩

/-- An index vector is the pair of its two entries. -/
theorem eq_pair {p : IVec S2 32} {a b : BitVec 32} (h0 : p (entry 0) = a) (h1 : p (entry 1) = b) : p = pair a b := by
  have hi : ∀ i : S2.Idx, i = entry 0 ∨ i = entry 1 := by decide
  funext i
  rcases hi i with rfl | rfl
  · exact h0
  · exact h1

/-- The array index of row `r` at the two inner coordinates of `j`. -/
def atRow (r : Fin 2) (j : S2x4096x2048.Idx) : S2x4096x2048.Idx := Function.update j 0 r

/-- Under [1, 0] the row read for result row `k` is the other one. -/
theorem starts_swap : ∀ k : S2x1.Idx, min (starts (pair 1#32 0#32) k).toInt.toNat 1 = 1 - (k 0).val := by decide

/-- Under [0, 1] the row read for result row `k` is `k`. -/
theorem starts_stay : ∀ k : S2x1.Idx, min (starts (pair 0#32 1#32) k).toInt.toNat 1 = (k 0).val := by decide

/-- The place of result row `j 0` in the column of row numbers. -/
def startAt (j : S2x4096x2048.Idx) : S2x1.Idx := fun b => match b with
  | ⟨0, _⟩ => (j 0 : Fin 2)
  | ⟨1, _⟩ => (0 : Fin 1)

/-- The reference's gather reads the array at the row its row number names and the result's own inner coordinates. -/
theorem gather_row {α : Type} (x : S2x4096x2048.Idx → α) (idx : IVec S2x1 32) (j : S2x4096x2048.Idx) (r : Fin 2)
    (hr : min (idx (startAt j)).toInt.toNat 1 = r.val) :
    Host.gather gather_S2x4096x2048_S2x1_S2x4096x2048_12_0_n_n_0_1_140962048 x idx j = x (atRow r j) := by
  unfold Host.gather
  congr 1
  funext a
  apply Fin.ext
  match a with
  | ⟨0, _⟩ =>
    have e : gather_S2x4096x2048_S2x1_S2x4096x2048_12_0_n_n_0_1_140962048.siIdx j ⟨0, by decide⟩ = startAt j := by
      funext b
      match b with
      | ⟨0, _⟩ => rfl
      | ⟨1, _⟩ => rfl
    show min (idx (gather_S2x4096x2048_S2x1_S2x4096x2048_12_0_n_n_0_1_140962048.siIdx j ⟨0, _⟩)).toInt.toNat 1 + 0 + 0 = r.val
    rw [e, hr]; rfl
  | ⟨1, _⟩ => show 0 + 0 + (j 1).val = (j 1).val; omega
  | ⟨2, _⟩ => show 0 + 0 + (j 2).val = (j 2).val; omega

/-- The array with its two rows exchanged. -/
def flipped {α : Type} (x : S2x4096x2048.Idx → α) : S2x4096x2048.Idx → α := fun j => x (atRow ⟨1 - (j 0).val, by omega⟩ j)

/-- The reference's result under [1, 0]: the array with its rows exchanged. -/
theorem result_swap {α : Type} (x : S2x4096x2048.Idx → α) :
    Host.gather gather_S2x4096x2048_S2x1_S2x4096x2048_12_0_n_n_0_1_140962048 x (starts (pair 1#32 0#32)) = flipped x := by
  funext j
  exact gather_row x _ j _ (starts_swap _)

/-- The reference's result under [0, 1]: the array. -/
theorem result_stay {α : Type} (x : S2x4096x2048.Idx → α) :
    Host.gather gather_S2x4096x2048_S2x1_S2x4096x2048_12_0_n_n_0_1_140962048 x (starts (pair 0#32 1#32)) = x := by
  funext j
  rw [gather_row x _ j (j 0) (starts_stay _)]
  exact congrArg x (Function.update_eq_self 0 j)

/-- The program declares no semaphore, so the counters of any of its states are all zero. -/
theorem sem_zero (s : MemSt nD τ sig (Elt F)) : s.sem = fun _ => 0 := sem_eq_zero_of_no_sems rfl s

/-- The reference terminates with its arguments unchanged and every counter zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_zero r.2⟩) (run m ρ)

/-- Under [1, 0] the reference's result is its array with the rows exchanged. -/
theorem run_swap (m : (ℓ : Loc nD τ sig) → Buf (Elt F) ℓ) (ρ : Dev nD → PrngReg)
    (hp : ∀ c : Dev nD, m ((c.tc : Thread nD τ).loc main_arg1) = pair 1#32 0#32) :
    θ_run defs (onTc (τ := τ) (main (F := F))) ⟨m, fun _ => 0, ρ⟩ fun r => ∀ c : Dev nD,
      r.2.mem ((c.tc : Thread nD τ).loc main_v7) = flipped (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((congrArg (fun p => Host.gather gather_S2x4096x2048_S2x1_S2x4096x2048_12_0_n_n_0_1_140962048
    (m ((c.tc : Thread nD τ).loc main_arg0)) (starts p)) (hp c)).trans (result_swap _)), (h c).2⟩) (run m ρ)

/-- Under [0, 1] the reference's result is its array. -/
theorem run_stay (m : (ℓ : Loc nD τ sig) → Buf (Elt F) ℓ) (ρ : Dev nD → PrngReg)
    (hp : ∀ c : Dev nD, m ((c.tc : Thread nD τ).loc main_arg1) = pair 0#32 1#32) :
    θ_run defs (onTc (τ := τ) (main (F := F))) ⟨m, fun _ => 0, ρ⟩ fun r => ∀ c : Dev nD,
      r.2.mem ((c.tc : Thread nD τ).loc main_v7) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((congrArg (fun p => Host.gather gather_S2x4096x2048_S2x1_S2x4096x2048_12_0_n_n_0_1_140962048
    (m ((c.tc : Thread nD τ).loc main_arg0)) (starts p)) (hp c)).trans (result_stay _)), (h c).2⟩) (run m ρ)

end Cert.ReferenceIdeal.Rows

end

end
-- ==== Proof.Words.lean ====
/- What the two preconditions say of the index vector: `is_swap` that it is [1, 0], `is_identity` that it is [0, 1]. Each
   predicate compares the two entries with two constants and takes the conjunction of the two bits. -/
module

public import proofs.«01_k».proof.Proof.ReferenceRows
public import proofs.«01_k».proof.Proof.Gen.Pre_is_swap_Kernel
public import proofs.«01_k».proof.Proof.Gen.Pre_is_identity_Kernel

@[expose] public section

noncomputable section

namespace Cert.Words

open Idealize.ShloMosaic Cert.ReferenceIdeal.Rows

variable {F : FTy → Type} [FloatOps F]

/-- The conjunction of two comparisons for equality is the set bit only when both hold. -/
theorem both {a b u v : BitVec 32} (h : IntOp.andi (IntOp.cmpi .eq a b) (IntOp.cmpi .eq u v) = 1#1) : a = b ∧ u = v := by
  have bits : ∀ p q : Bool, IntOp.andi (BitVec.ofBool p) (BitVec.ofBool q) = 1#1 → p = true ∧ q = true := by decide
  obtain ⟨h1, h2⟩ := bits (a == b) (u == v) h
  exact ⟨eq_of_beq h1, eq_of_beq h2⟩

/-- `is_swap` holds only of the vector [1, 0]. -/
theorem of_swap (x : FVec F Pre_is_swap_Kernel.S1x4096x2048 .f32) (p : IVec Pre_is_swap_Kernel.S2 32)
    (h : Pre_is_swap_Kernel.fn x p = fun _ => 1#1) : p = pair 1#32 0#32 := by
  have e : p = pair (p (entry 0)) (p (entry 1)) := eq_pair rfl rfl
  rw [e] at h
  obtain ⟨h0, h1⟩ := both (a := p (entry 0)) (b := 1#32) (u := p (entry 1)) (v := 0#32) (congrFun h fun a => a.elim0)
  exact eq_pair h0 h1

/-- `is_identity` holds only of the vector [0, 1]. -/
theorem of_stay (x : FVec F Pre_is_identity_Kernel.S1x4096x2048 .f32) (p : IVec Pre_is_identity_Kernel.S2 32)
    (h : Pre_is_identity_Kernel.fn x p = fun _ => 1#1) : p = pair 0#32 1#32 := by
  have e : p = pair (p (entry 0)) (p (entry 1)) := eq_pair rfl rfl
  rw [e] at h
  obtain ⟨h0, h1⟩ := both (a := p (entry 0)) (b := 0#32) (u := p (entry 1)) (v := 1#32) (congrFun h fun a => a.elim0)
  exact eq_pair h0 h1

end Cert.Words

end

end
-- ==== Proof.Blocks.lean ====
/- The four devices' blocks of the whole array. Device `c` of the two-by-two mesh holds row `c / 2`. When every device
   holds its block of one array, what the swap leaves at a device is its block of the array with the rows exchanged. -/
module

public import proofs.«01_k».proof.Proof.KernelIdealLaunch
public import proofs.«01_k».proof.Proof.ReferenceRows
public import Idealize.ShloMosaic.Lib.Layout

@[expose] public section

noncomputable section

namespace Cert.Blocks

open Idealize.ShloMosaic Cert.ReferenceIdeal.Rows Cert.KernelIdeal Cert.KernelIdeal.Swap

/-- The block of the whole array `v` at device `c`. -/
abbrev blk {α : Type} (c : Dev KernelIdeal.nD) (v : (⟨3, ![2, 4096, 2048]⟩ : Shape).Idx → α) : (⟨3, ![1, 4096, 2048]⟩ : Shape).Idx → α :=
  Layout.blockN ⟨3, ![1, 4096, 2048]⟩ ⟨3, ![2, 4096, 2048]⟩ (Layout.meshBlock [2, 2] ![[0], [], []] c) v

/-- A device's block read at an index is the array read at that device's row. -/
theorem blk_apply {α : Type} (c : Dev KernelIdeal.nD) (v : (⟨3, ![2, 4096, 2048]⟩ : Shape).Idx → α)
    (i : (⟨3, ![1, 4096, 2048]⟩ : Shape).Idx) (j : (⟨3, ![2, 4096, 2048]⟩ : Shape).Idx)
    (h0 : (j 0).val = c.val / 2) (h1 : (j 1).val = (i 1).val) (h2 : (j 2).val = (i 2).val) : blk c v i = v j := by
  rw [blk, Layout.blockN_apply]
  congr 1
  funext b
  apply Fin.ext
  rw [Layout.TilesN.idx_val]
  have hi : (i 0).val < 1 := (i 0).isLt
  have hc : c.val < 4 := c.isLt
  match b with
  | ⟨0, _⟩ =>
    show (c.val / 2 % 2 * 1 + 0) * 1 + (i 0).val = (j 0).val
    omega
  | ⟨1, _⟩ => show 0 * 4096 + (i 1).val = (j 1).val; omega
  | ⟨2, _⟩ => show 0 * 2048 + (i 2).val = (j 2).val; omega

/-- The block of the array with its rows exchanged is the block the device in the other row holds. -/
theorem blk_flipped {α : Type} (c d : Dev KernelIdeal.nD) (hd : d.val / 2 = 1 - c.val / 2)
    (v : (⟨3, ![2, 4096, 2048]⟩ : Shape).Idx → α) : blk c (flipped v) = blk d v := by
  funext i
  have hc : c.val < 4 := c.isLt
  have hk : c.val / 2 < 2 := by omega
  let j : (⟨3, ![2, 4096, 2048]⟩ : Shape).Idx := fun b => match b with
    | ⟨0, _⟩ => (⟨c.val / 2, hk⟩ : Fin 2)
    | ⟨1, _⟩ => i 1
    | ⟨2, _⟩ => i 2
  rw [blk_apply c (flipped v) i j rfl rfl rfl]
  exact (blk_apply d v i _ hd.symm rfl rfl).symm

/-- What the swap leaves at a device, when every device starts with its block of `v`: its block of `v` with the rows
    exchanged. -/
theorem outF_blocks {F : FTy → Type} [FloatOps F] (xs : Dev KernelIdeal.nD → Blk F) (v : (⟨3, ![2, 4096, 2048]⟩ : Shape).Idx → Elt F .f32)
    (hx : ∀ c, xs c = blk c v) (c : Dev KernelIdeal.nD) : outF xs c = blk c (flipped v) := by
  have r1 : ∀ c : Dev KernelIdeal.nD, (rowP c).val / 2 = 1 - c.val / 2 := by decide
  have r2 : ∀ c : Dev KernelIdeal.nD, (rowP (colP c)).val / 2 = 1 - c.val / 2 := by decide
  funext i
  unfold outF
  split
  · rw [hx, blk_flipped c _ (r1 c)]
  · rw [hx, blk_flipped c _ (r2 c)]

end Cert.Blocks

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_is_swap_Kernel
public import proofs.«01_k».proof.Proof.Gen.Pre_is_identity_Kernel
public import proofs.«01_k».proof.Proof.Gen.Pre_is_swap_ReferenceIdeal
public import proofs.«01_k».proof.Proof.Gen.Pre_is_identity_ReferenceIdeal
public import proofs.«01_k».proof.Proof.KernelLaunch
public import proofs.«01_k».proof.Proof.KernelStay
public import proofs.«01_k».proof.Proof.KernelIdealLaunch
public import proofs.«01_k».proof.Proof.KernelIdealStay
public import proofs.«01_k».proof.Proof.ReferenceRows
public import proofs.«01_k».proof.Proof.Words
public import proofs.«01_k».proof.Proof.Blocks
public import Idealize.ShloMosaic.Adequacy
public import Idealize.ShloMosaic.Init

@[expose] public section

noncomputable section

namespace Cert.Proof

open Idealize.ShloMosaic Idealize.SL.Sem

/-- The vector [1, 0], read at a device's row, names the other row. -/
theorem swaps_of_pair : ∀ c : Dev Cert.KernelIdeal.nD,
    ReferenceIdeal.Rows.pair 1#32 0#32 (KernelIdeal.Swap.rowIx c) = KernelIdeal.Swap.sw c := by decide

/-- The vector [0, 1], read at a device's row, names that row. -/
theorem stays_of_pair : ∀ c : Dev Cert.KernelIdeal.nD,
    ReferenceIdeal.Rows.pair 0#32 1#32 (KernelIdeal.Swap.rowIx c) = BitVec.ofNat 32 (c.val / 2) := by decide

/-- The kernel as printed, under [1, 0]: it terminates, its arguments unchanged and every counter zero. -/
theorem kernel_swap : Cert.quiescent_Kernel := fun m g h =>
  (θ_run _ _ _).mono (fun r hr => ⟨fun c => ⟨(hr.1 c).1, (hr.1 c).2.1⟩, hr.2⟩)
    (Kernel.Swap.run m g fun c => (congrFun (Words.of_swap _ _ (h c)) _).trans (swaps_of_pair c))

/-- The same under [0, 1]. -/
theorem kernel_stay : Cert.quiescent_Kernel_pre_is_identity_Kernel := fun m g h =>
  (θ_run _ _ _).mono (fun r hr => ⟨fun c => ⟨(hr.1 c).1, (hr.1 c).2.1⟩, hr.2⟩)
    (Kernel.Stay.run m g fun c => (congrFun (Words.of_stay _ _ (h c)) _).trans (stays_of_pair c))

/-- The kernel read over the extended reals, under [1, 0]. -/
theorem ideal_swap : Cert.quiescent_KernelIdeal := fun m g h =>
  (θ_run _ _ _).mono (fun r hr => ⟨fun c => ⟨(hr.1 c).1, (hr.1 c).2.1⟩, hr.2⟩)
    (KernelIdeal.Swap.run m g fun c => (congrFun (Words.of_swap _ _ (h c)) _).trans (swaps_of_pair c))

/-- The same under [0, 1]. -/
theorem ideal_stay : Cert.quiescent_KernelIdeal_pre_is_identity_Kernel := fun m g h =>
  (θ_run _ _ _).mono (fun r hr => ⟨fun c => ⟨(hr.1 c).1, (hr.1 c).2.1⟩, hr.2⟩)
    (KernelIdeal.Stay.run m g fun c => (congrFun (Words.of_stay _ _ (h c)) _).trans (stays_of_pair c))

/-- Under [1, 0] the kernel leaves at each device its block of what the reference computes: the array with its rows
    exchanged. -/
theorem value_swap : Cert.algebraic_KernelIdeal_ReferenceIdeal := fun m g m' g' h hb => by
  have hp : ∀ c : Dev KernelIdeal.nD, m ((c.tc : Thread KernelIdeal.nD KernelIdeal.τ).loc KernelIdeal.main_arg1) = ReferenceIdeal.Rows.pair 1#32 0#32 :=
    fun c => Words.of_swap _ _ (h c)
  have hp' : ∀ c : Dev ReferenceIdeal.nD, m' ((c.tc : Thread ReferenceIdeal.nD ReferenceIdeal.τ).loc ReferenceIdeal.main_arg1)
      = ReferenceIdeal.Rows.pair 1#32 0#32 := fun c => by
    obtain rfl : c = 0 := Subsingleton.elim (α := Fin 1) c 0
    exact (hb 0).2.symm.trans (hp 0)
  refine ⟨_, (θ_run _ _ _).mono (fun r hr c => ⟨?_, (hr.1 c).1, (hr.1 c).2.1⟩)
      (KernelIdeal.Swap.run m g fun c => (congrFun (hp c) _).trans (swaps_of_pair c)),
    (θ_run _ _ _).mono (fun r hr => hr 0) (ReferenceIdeal.Rows.run_swap m' g' hp')⟩
  exact ((hr.1 c).2.2).trans (Blocks.outF_blocks _ _ (fun d => (hb d).1) c)

/-- Under [0, 1] the kernel leaves at each device its block of what the reference computes: the array itself. -/
theorem value_stay : Cert.algebraic_KernelIdeal_ReferenceIdeal_pre_is_identity_Kernel := fun m g m' g' h hb => by
  have hp : ∀ c : Dev KernelIdeal.nD, m ((c.tc : Thread KernelIdeal.nD KernelIdeal.τ).loc KernelIdeal.main_arg1) = ReferenceIdeal.Rows.pair 0#32 1#32 :=
    fun c => Words.of_stay _ _ (h c)
  have hp' : ∀ c : Dev ReferenceIdeal.nD, m' ((c.tc : Thread ReferenceIdeal.nD ReferenceIdeal.τ).loc ReferenceIdeal.main_arg1)
      = ReferenceIdeal.Rows.pair 0#32 1#32 := fun c => by
    obtain rfl : c = 0 := Subsingleton.elim (α := Fin 1) c 0
    exact (hb 0).2.symm.trans (hp 0)
  refine ⟨_, (θ_run _ _ _).mono (fun r hr c => ⟨?_, (hr.1 c).1, (hr.1 c).2.1⟩)
      (KernelIdeal.Stay.run m g fun c => (congrFun (hp c) _).trans (stays_of_pair c)),
    (θ_run _ _ _).mono (fun r hr => hr 0) (ReferenceIdeal.Rows.run_stay m' g' hp')⟩
  exact ((hr.1 c).2.2).trans (hb c).1

theorem claim : Cert.Claim := ⟨Cert.Kernel.Gen.facts, Cert.KernelIdeal.Gen.facts, Cert.ReferenceIdeal.Gen.facts, Cert.Pre_is_swap_Kernel.Gen.facts, Cert.Pre_is_identity_Kernel.Gen.facts, Cert.Pre_is_swap_ReferenceIdeal.Gen.facts, Cert.Pre_is_identity_ReferenceIdeal.Gen.facts,
  kernel_swap, kernel_stay, ideal_swap, ideal_stay, fun m g _ => ReferenceIdeal.Rows.frame m g,
  fun m g _ => ReferenceIdeal.Rows.frame m g, fun m g _ => ReferenceIdeal.Rows.frame m g, trivial, value_swap, value_stay⟩

end Cert.Proof

end
